-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tame_KernelIdeal [hPre_tame_KernelIdeal : Cert.Pre_tame_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_tame_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_tame_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_tame_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tame_ReferenceIdeal [hPre_tame_ReferenceIdeal : Cert.Pre_tame_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tame_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_tame_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_tame_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_tame_KernelIdeal [hKernelIdeal : Cert.KernelIdeal.Facts] [hPre_tame_KernelIdeal : Cert.Pre_tame_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tame_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_tame_ReferenceIdeal [hReferenceIdeal : Cert.ReferenceIdeal.Facts] [hPre_tame_ReferenceIdeal : Cert.Pre_tame_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tame_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_tame_KernelIdeal [hKernelIdeal : Cert.KernelIdeal.Facts] [hReferenceIdeal : Cert.ReferenceIdeal.Facts] [hPre_tame_KernelIdeal : Cert.Pre_tame_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tame_KernelIdeal m →
    (∀ c : Dev Cert.KernelIdeal.nD,
      m ((c.tc : Thread Cert.KernelIdeal.nD Cert.KernelIdeal.τ).loc Cert.KernelIdeal.main_arg0) = Layout.block ⟨2, ![2048, 512]⟩ ⟨2, ![8192, 512]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨2, ![2048, 1]⟩ ⟨2, ![8192, 1]⟩ 0 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨3, ![8, 512, 1024]⟩ ⟨3, ![32, 512, 1024]⟩ 0 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![2048, 1024]⟩ ⟨2, ![8192, 1024]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v42) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_tame_KernelIdeal : Cert.Pre_tame_KernelIdeal.Facts) (hPre_tame_ReferenceIdeal : Cert.Pre_tame_ReferenceIdeal.Facts),
    quiescent_Kernel (hKernel := hKernel)
    ∧ quiescent_KernelIdeal (hKernelIdeal := hKernelIdeal)
    ∧ quiescent_KernelIdeal_pre_tame_KernelIdeal (hKernelIdeal := hKernelIdeal) (hPre_tame_KernelIdeal := hPre_tame_KernelIdeal)
    ∧ quiescent_ReferenceIdeal (hReferenceIdeal := hReferenceIdeal)
    ∧ quiescent_ReferenceIdeal_pre_tame_ReferenceIdeal (hReferenceIdeal := hReferenceIdeal) (hPre_tame_ReferenceIdeal := hPre_tame_ReferenceIdeal)
    ∧ preserves_Kernel_KernelIdeal
    ∧ algebraic_KernelIdeal_ReferenceIdeal_pre_tame_KernelIdeal (hKernelIdeal := hKernelIdeal) (hReferenceIdeal := hReferenceIdeal) (hPre_tame_KernelIdeal := hPre_tame_KernelIdeal)
-- ==== Pre_tame_KernelIdeal.lean ====
abbrev S2048x512 : Shape := ⟨2, ![2048, 512]⟩
abbrev S512x32 : Shape := ⟨2, ![512, 32]⟩
abbrev S2048x1 : Shape := ⟨2, ![2048, 1]⟩
abbrev S8x512x1024 : Shape := ⟨3, ![8, 512, 1024]⟩
abbrev S512x1024 : Shape := ⟨2, ![512, 1024]⟩
abbrev S_ : Shape := ⟨0, ![]⟩

class Facts : Prop where
  bcast_S_S2048x1 : S_.BroadcastsInDim S2048x1 (![] : Fin 0 → Fin S2048x1.rank)
  bcast_S_S2048x512 : S_.BroadcastsInDim S2048x512 (![] : Fin 0 → Fin S2048x512.rank)
  bcast_S_S512x32 : S_.BroadcastsInDim S512x32 (![] : Fin 0 → Fin S512x32.rank)

variable [Facts]

def fn {F : FTy → Type} [FloatOps F] (main_arg0 : FVec F S2048x512 .bf16) (main_arg1 : FVec F S512x32 .bf16) (main_arg2 : IVec S2048x1 32) (main_arg3 : FVec F S8x512x1024 .f32) (main_arg4 : FVec F S512x1024 .bf16) : IVec S2048x1 1 × IVec S2048x512 1 × IVec S512x32 1 :=
  let main_c : IVec S_ 32 := constantI S_ 32 0#32
  let main_v0 : IVec S2048x1 32 := broadcastInDim S2048x1 ![] bcast_S_S2048x1 main_c
  let main_v1 : IVec S2048x1 1 := cmpi .sge main_arg2 main_v0
  let main_c_0 : IVec S_ 32 := constantI S_ 32 32#32
  let main_v2 : IVec S2048x1 32 := broadcastInDim S2048x1 ![] bcast_S_S2048x1 main_c_0
  let main_v3 : IVec S2048x1 1 := cmpi .slt main_arg2 main_v2
  let main_v4 : IVec S2048x1 1 := andi main_v1 main_v3
  let main_v5 : FVec F S2048x512 .bf16 := Host.absf main_arg0
  let main_cst : FVec F S_ .bf16 := constant S_ .bf16 0x7F80#16
  let main_v6 : FVec F S2048x512 .bf16 := broadcastInDim S2048x512 ![] bcast_S_S2048x512 main_cst
  let main_v7 : IVec S2048x512 1 := cmpf .olt main_v5 main_v6
  let main_v8 : FVec F S512x32 .bf16 := Host.absf main_arg1
  let main_cst_1 : FVec F S_ .bf16 := constant S_ .bf16 0x7F80#16
  let main_v9 : FVec F S512x32 .bf16 := broadcastInDim S512x32 ![] bcast_S_S512x32 main_cst_1
  let main_v10 : IVec S512x32 1 := cmpf .olt main_v8 main_v9
  (main_v4, main_v7, main_v10)
-- ==== Pre_tame_ReferenceIdeal.lean ====
abbrev S8192x512 : Shape := ⟨2, ![8192, 512]⟩
abbrev S512x32 : Shape := ⟨2, ![512, 32]⟩
abbrev S8192x1 : Shape := ⟨2, ![8192, 1]⟩
abbrev S32x512x1024 : Shape := ⟨3, ![32, 512, 1024]⟩
abbrev S512x1024 : Shape := ⟨2, ![512, 1024]⟩
abbrev S_ : Shape := ⟨0, ![]⟩

class Facts : Prop where
  bcast_S_S8192x1 : S_.BroadcastsInDim S8192x1 (![] : Fin 0 → Fin S8192x1.rank)
  bcast_S_S8192x512 : S_.BroadcastsInDim S8192x512 (![] : Fin 0 → Fin S8192x512.rank)
  bcast_S_S512x32 : S_.BroadcastsInDim S512x32 (![] : Fin 0 → Fin S512x32.rank)

variable [Facts]

def fn {F : FTy → Type} [FloatOps F] (main_arg0 : FVec F S8192x512 .bf16) (main_arg1 : FVec F S512x32 .bf16) (main_arg2 : IVec S8192x1 32) (main_arg3 : FVec F S32x512x1024 .f32) (main_arg4 : FVec F S512x1024 .bf16) : IVec S8192x1 1 × IVec S8192x512 1 × IVec S512x32 1 :=
  let main_c : IVec S_ 32 := constantI S_ 32 0#32
  let main_v0 : IVec S8192x1 32 := broadcastInDim S8192x1 ![] bcast_S_S8192x1 main_c
  let main_v1 : IVec S8192x1 1 := cmpi .sge main_arg2 main_v0
  let main_c_0 : IVec S_ 32 := constantI S_ 32 32#32
  let main_v2 : IVec S8192x1 32 := broadcastInDim S8192x1 ![] bcast_S_S8192x1 main_c_0
  let main_v3 : IVec S8192x1 1 := cmpi .slt main_arg2 main_v2
  let main_v4 : IVec S8192x1 1 := andi main_v1 main_v3
  let main_v5 : FVec F S8192x512 .bf16 := Host.absf main_arg0
  let main_cst : FVec F S_ .bf16 := constant S_ .bf16 0x7F80#16
  let main_v6 : FVec F S8192x512 .bf16 := broadcastInDim S8192x512 ![] bcast_S_S8192x512 main_cst
  let main_v7 : IVec S8192x512 1 := cmpf .olt main_v5 main_v6
  let main_v8 : FVec F S512x32 .bf16 := Host.absf main_arg1
  let main_cst_1 : FVec F S_ .bf16 := constant S_ .bf16 0x7F80#16
  let main_v9 : FVec F S512x32 .bf16 := broadcastInDim S512x32 ![] bcast_S_S512x32 main_cst_1
  let main_v10 : IVec S512x32 1 := cmpf .olt main_v8 main_v9
  (main_v4, main_v7, main_v10)
-- ==== Kernel.lean ====
abbrev S2048x512 : Shape := ⟨2, ![2048, 512]⟩
abbrev S512x32 : Shape := ⟨2, ![512, 32]⟩
abbrev S2048x1 : Shape := ⟨2, ![2048, 1]⟩
abbrev S8x512x1024 : Shape := ⟨3, ![8, 512, 1024]⟩
abbrev S512x1024 : Shape := ⟨2, ![512, 1024]⟩
abbrev S2048x1024 : Shape := ⟨2, ![2048, 1024]⟩
abbrev S3x8x512x1024 : Shape := ⟨4, ![3, 8, 512, 1024]⟩
abbrev S2x512x1024 : Shape := ⟨3, ![2, 512, 1024]⟩
abbrev S8 : Shape := ⟨1, ![8]⟩
abbrev S2 : Shape := ⟨1, ![2]⟩
abbrev S1 : Shape := ⟨1, ![1]⟩
abbrev S_ : Shape := ⟨0, ![]⟩
abbrev S1x512x1024 : Shape := ⟨3, ![1, 512, 1024]⟩
abbrev S1x4x512x1024 : Shape := ⟨4, ![1, 4, 512, 1024]⟩
abbrev S4x512x1024 : Shape := ⟨3, ![4, 512, 1024]⟩
abbrev S2048x32 : Shape := ⟨2, ![2048, 32]⟩
abbrev S2048 : Shape := ⟨1, ![2048]⟩
abbrev S512x512 : Shape := ⟨2, ![512, 512]⟩
abbrev S512x1 : Shape := ⟨2, ![512, 1]⟩
abbrev S1x8x512x1024 : Shape := ⟨4, ![1, 8, 512, 1024]⟩
abbrev S1x2x512x1024 : Shape := ⟨4, ![1, 2, 512, 1024]⟩

abbrev nBuf : Space → Nat
  | .hbm => 6
  | .vmem => 9
  | .smem => 0
  | _ => 0

abbrev bufTy : (tb : Table) → Fin (tcTables nBuf tb) → BufTy
  | .hbm, ⟨0, _⟩ => ⟨S2048x512, .bf16⟩
  | .hbm, ⟨1, _⟩ => ⟨S512x32, .bf16⟩
  | .hbm, ⟨2, _⟩ => ⟨S2048x1, .i32⟩
  | .hbm, ⟨3, _⟩ => ⟨S8x512x1024, .f32⟩
  | .hbm, ⟨4, _⟩ => ⟨S512x1024, .bf16⟩
  | .hbm, ⟨5, _⟩ => ⟨S2048x1024, .bf16⟩
  | .local _ .vmem, ⟨0, _⟩ => ⟨S2048x512, .bf16⟩
  | .local _ .vmem, ⟨1, _⟩ => ⟨S512x32, .bf16⟩
  | .local _ .vmem, ⟨2, _⟩ => ⟨S2048x1, .i32⟩
  | .local _ .vmem, ⟨3, _⟩ => ⟨S512x1024, .bf16⟩
  | .local _ .vmem, ⟨4, _⟩ => ⟨S2048x1024, .bf16⟩
  | .local _ .vmem, ⟨5, _⟩ => ⟨S3x8x512x1024, .bf16⟩
  | .local _ .vmem, ⟨6, _⟩ => ⟨S2x512x1024, .f32⟩
  | .local _ .vmem, ⟨7, _⟩ => ⟨S8x512x1024, .bf16⟩
  | .local _ .vmem, ⟨8, _⟩ => ⟨S2048x1, .f32⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  (ofTc nBuf bufTy 1 23 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_41 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_40 : BitVec 32 := 1#32
  let v45 : BitVec 32 := Scalar.muli v5 c1_i32_40
  let v46 : BitVec 32 := Scalar.addi c0_i32_41 v45
  v46.toNat
def k0_dev2 (d0 : Dev nD) : Nat :=
  let c0_i32_44 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_43 : BitVec 32 := 1#32
  let v47 : BitVec 32 := Scalar.muli v7 c1_i32_43
  let v48 : BitVec 32 := Scalar.addi c0_i32_44 v47
  v48.toNat
def k0_dev3 (d0 : Dev nD) : Nat :=
  let c0_i32_50 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_49 : BitVec 32 := 1#32
  let v49 : BitVec 32 := Scalar.muli v7 c1_i32_49
  let v50 : BitVec 32 := Scalar.addi c0_i32_50 v49
  v50.toNat
def k0_dev4 (d0 : Dev nD) : Nat :=
  let c0_i32_61 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_60 : BitVec 32 := 1#32
  let v58 : BitVec 32 := Scalar.muli v5 c1_i32_60
  let v59 : BitVec 32 := Scalar.addi c0_i32_61 v58
  v59.toNat
def k0_dev5 (d0 : Dev nD) : Nat :=
  let c0_i32_129 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_128 : BitVec 32 := 1#32
  let v134 : BitVec 32 := Scalar.muli v7 c1_i32_128
  let v135 : BitVec 32 := Scalar.addi c0_i32_129 v134
  v135.toNat
def k0_dev6 (d0 : Dev nD) : Nat :=
  let c0_i32_149 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_148 : BitVec 32 := 1#32
  let v148 : BitVec 32 := Scalar.muli v5 c1_i32_148
  let v149 : BitVec 32 := Scalar.addi c0_i32_149 v148
  v149.toNat
@[reducible] def k0_t1_loop : Scf.Loop 32 :=
  let c0_i32_158 : BitVec 32 := 0#32
  let c4_i32_159 : BitVec 32 := 4#32
  let v159 : BitVec 32 := Scalar.addi c0_i32_158 c4_i32_159
  let c1_i32_160 : BitVec 32 := 1#32
  ⟨c0_i32_158, v159, c1_i32_160⟩
def k0_off1 (k0_t1 : Fin k0_t1_loop.trips) : Fin 2 → Nat :=
  let c0_i32_158 : BitVec 32 := 0#32
  let c1_i32_160 : BitVec 32 := 1#32
  let arg13 : BitVec 32 := Scf.iv c0_i32_158 c1_i32_160 k0_t1
  let c512_i32 : BitVec 32 := 512#32
  let v303 : BitVec 32 := Scalar.muli arg13 c512_i32
  let v304 : Index := Scalar.indexCast v303
  let c0_400 : Index := 0#32
  ![v304.toNat, 0]
def k0_off2 (k0_t1 : Fin k0_t1_loop.trips) : Fin 2 → Nat :=
  let c0_i32_158 : BitVec 32 := 0#32
  let c1_i32_160 : BitVec 32 := 1#32
  let arg13 : BitVec 32 := Scf.iv c0_i32_158 c1_i32_160 k0_t1
  let c512_i32 : BitVec 32 := 512#32
  let v303 : BitVec 32 := Scalar.muli arg13 c512_i32
  let v309 : Index := Scalar.indexCast v303
  let c0_402 : Index := 0#32
  ![v309.toNat, 0]
@[reducible] def k0_t2_loop : Scf.Loop 32 :=
  let c0_i32_162 : BitVec 32 := 0#32
  let c4_i32_163 : BitVec 32 := 4#32
  let v160 : BitVec 32 := Scalar.addi c0_i32_162 c4_i32_163
  let c1_i32_164 : BitVec 32 := 1#32
  ⟨c0_i32_162, v160, c1_i32_164⟩
def k0_off3 (k0_t2 : Fin k0_t2_loop.trips) : Fin 2 → Nat :=
  let c0_i32_162 : BitVec 32 := 0#32
  let c1_i32_164 : BitVec 32 := 1#32
  let arg13 : BitVec 32 := Scf.iv c0_i32_162 c1_i32_164 k0_t2
  let c512_i32 : BitVec 32 := 512#32
  let v303 : BitVec 32 := Scalar.muli arg13 c512_i32
  let v304 : Index := Scalar.indexCast v303
  let c0_400 : Index := 0#32
  ![v304.toNat, 0]
def k0_off4 (k0_t2 : Fin k0_t2_loop.trips) : Fin 2 → Nat :=
  let c0_i32_162 : BitVec 32 := 0#32
  let c1_i32_164 : BitVec 32 := 1#32
  let arg13 : BitVec 32 := Scf.iv c0_i32_162 c1_i32_164 k0_t2
  let c512_i32 : BitVec 32 := 512#32
  let v303 : BitVec 32 := Scalar.muli arg13 c512_i32
  let v307 : Index := Scalar.indexCast v303
  let c0_401 : Index := 0#32
  ![v307.toNat, 0]
def k0_off5 (k0_t2 : Fin k0_t2_loop.trips) : Fin 2 → Nat :=
  let c0_i32_162 : BitVec 32 := 0#32
  let c1_i32_164 : BitVec 32 := 1#32
  let arg13 : BitVec 32 := Scf.iv c0_i32_162 c1_i32_164 k0_t2
  let c512_i32 : BitVec 32 := 512#32
  let v303 : BitVec 32 := Scalar.muli arg13 c512_i32
  let v312 : Index := Scalar.indexCast v303
  let c0_403 : Index := 0#32
  ![v312.toNat, 0]
@[reducible] def k0_t3_loop : Scf.Loop 32 :=
  let c0_i32_189 : BitVec 32 := 0#32
  let c4_i32_190 : BitVec 32 := 4#32
  let v175 : BitVec 32 := Scalar.addi c0_i32_189 c4_i32_190
  let c1_i32_191 : BitVec 32 := 1#32
  ⟨c0_i32_189, v175, c1_i32_191⟩
def k0_off6 (k0_t3 : Fin k0_t3_loop.trips) : Fin 2 → Nat :=
  let c0_i32_189 : BitVec 32 := 0#32
  let c1_i32_191 : BitVec 32 := 1#32
  let arg13 : BitVec 32 := Scf.iv c0_i32_189 c1_i32_191 k0_t3
  let c512_i32 : BitVec 32 := 512#32
  let v303 : BitVec 32 := Scalar.muli arg13 c512_i32
  let v304 : Index := Scalar.indexCast v303
  let c0_400 : Index := 0#32
  ![v304.toNat, 0]
def k0_off7 (k0_t3 : Fin k0_t3_loop.trips) : Fin 2 → Nat :=
  let c0_i32_189 : BitVec 32 := 0#32
  let c1_i32_191 : BitVec 32 := 1#32
  let arg13 : BitVec 32 := Scf.iv c0_i32_189 c1_i32_191 k0_t3
  let c512_i32 : BitVec 32 := 512#32
  let v303 : BitVec 32 := Scalar.muli arg13 c512_i32
  let v307 : Index := Scalar.indexCast v303
  let c0_401 : Index := 0#32
  ![v307.toNat, 0]
def k0_off8 (k0_t3 : Fin k0_t3_loop.trips) : Fin 2 → Nat :=
  let c0_i32_189 : BitVec 32 := 0#32
  let c1_i32_191 : BitVec 32 := 1#32
  let arg13 : BitVec 32 := Scf.iv c0_i32_189 c1_i32_191 k0_t3
  let c512_i32 : BitVec 32 := 512#32
  let v303 : BitVec 32 := Scalar.muli arg13 c512_i32
  let v312 : Index := Scalar.indexCast v303
  let c0_403 : Index := 0#32
  ![v312.toNat, 0]
@[reducible] def k0_t4_loop : Scf.Loop 32 :=
  let c0_i32_194 : BitVec 32 := 0#32
  let c4_i32_195 : BitVec 32 := 4#32
  let v176 : BitVec 32 := Scalar.addi c0_i32_194 c4_i32_195
  let c1_i32_196 : BitVec 32 := 1#32
  ⟨c0_i32_194, v176, c1_i32_196⟩
def k0_off9 (k0_t4 : Fin k0_t4_loop.trips) : Fin 2 → Nat :=
  let c0_i32_194 : BitVec 32 := 0#32
  let c1_i32_196 : BitVec 32 := 1#32
  let arg13 : BitVec 32 := Scf.iv c0_i32_194 c1_i32_196 k0_t4
  let c512_i32 : BitVec 32 := 512#32
  let v303 : BitVec 32 := Scalar.muli arg13 c512_i32
  let v304 : Index := Scalar.indexCast v303
  let c0_400 : Index := 0#32
  ![v304.toNat, 0]
def k0_off10 (k0_t4 : Fin k0_t4_loop.trips) : Fin 2 → Nat :=
  let c0_i32_194 : BitVec 32 := 0#32
  let c1_i32_196 : BitVec 32 := 1#32
  let arg13 : BitVec 32 := Scf.iv c0_i32_194 c1_i32_196 k0_t4
  let c512_i32 : BitVec 32 := 512#32
  let v303 : BitVec 32 := Scalar.muli arg13 c512_i32
  let v307 : Index := Scalar.indexCast v303
  let c0_401 : Index := 0#32
  ![v307.toNat, 0]
def k0_off11 (k0_t4 : Fin k0_t4_loop.trips) : Fin 2 → Nat :=
  let c0_i32_194 : BitVec 32 := 0#32
  let c1_i32_196 : BitVec 32 := 1#32
  let arg13 : BitVec 32 := Scf.iv c0_i32_194 c1_i32_196 k0_t4
  let c512_i32 : BitVec 32 := 512#32
  let v303 : BitVec 32 := Scalar.muli arg13 c512_i32
  let v312 : Index := Scalar.indexCast v303
  let c0_403 : Index := 0#32
  ![v312.toNat, 0]
def k0_dev7 (d0 : Dev nD) : Nat :=
  let c0_i32_213 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_212 : BitVec 32 := 1#32
  let v182 : BitVec 32 := Scalar.muli v5 c1_i32_212
  let v183 : BitVec 32 := Scalar.addi c0_i32_213 v182
  v183.toNat
def k0_dev8 (d0 : Dev nD) : Nat :=
  let c0_i32_246 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_245 : BitVec 32 := 1#32
  let v204 : BitVec 32 := Scalar.muli v7 c1_i32_245
  let v205 : BitVec 32 := Scalar.addi c0_i32_246 v204
  v205.toNat
@[reducible] def k0_t5_loop : Scf.Loop 32 :=
  let c0_i32_265 : BitVec 32 := 0#32
  let c4_i32_266 : BitVec 32 := 4#32
  let v221 : BitVec 32 := Scalar.addi c0_i32_265 c4_i32_266
  let c1_i32_267 : BitVec 32 := 1#32
  ⟨c0_i32_265, v221, c1_i32_267⟩
def k0_off12 (k0_t5 : Fin k0_t5_loop.trips) : Fin 2 → Nat :=
  let c0_i32_265 : BitVec 32 := 0#32
  let c1_i32_267 : BitVec 32 := 1#32
  let arg13 : BitVec 32 := Scf.iv c0_i32_265 c1_i32_267 k0_t5
  let c512_i32 : BitVec 32 := 512#32
  let v303 : BitVec 32 := Scalar.muli arg13 c512_i32
  let v304 : Index := Scalar.indexCast v303
  let c0_400 : Index := 0#32
  ![v304.toNat, 0]
def k0_off13 (k0_t5 : Fin k0_t5_loop.trips) : Fin 2 → Nat :=
  let c0_i32_265 : BitVec 32 := 0#32
  let c1_i32_267 : BitVec 32 := 1#32
  let arg13 : BitVec 32 := Scf.iv c0_i32_265 c1_i32_267 k0_t5
  let c512_i32 : BitVec 32 := 512#32
  let v303 : BitVec 32 := Scalar.muli arg13 c512_i32
  let v307 : Index := Scalar.indexCast v303
  let c0_401 : Index := 0#32
  ![v307.toNat, 0]
def k0_off14 (k0_t5 : Fin k0_t5_loop.trips) : Fin 2 → Nat :=
  let c0_i32_265 : BitVec 32 := 0#32
  let c1_i32_267 : BitVec 32 := 1#32
  let arg13 : BitVec 32 := Scf.iv c0_i32_265 c1_i32_267 k0_t5
  let c512_i32 : BitVec 32 := 512#32
  let v303 : BitVec 32 := Scalar.muli arg13 c512_i32
  let v312 : Index := Scalar.indexCast v303
  let c0_403 : Index := 0#32
  ![v312.toNat, 0]
@[reducible] def k0_t6_loop : Scf.Loop 32 :=
  let c0_i32_270 : BitVec 32 := 0#32
  let c4_i32_271 : BitVec 32 := 4#32
  let v222 : BitVec 32 := Scalar.addi c0_i32_270 c4_i32_271
  let c1_i32_272 : BitVec 32 := 1#32
  ⟨c0_i32_270, v222, c1_i32_272⟩
def k0_off15 (k0_t6 : Fin k0_t6_loop.trips) : Fin 2 → Nat :=
  let c0_i32_270 : BitVec 32 := 0#32
  let c1_i32_272 : BitVec 32 := 1#32
  let arg13 : BitVec 32 := Scf.iv c0_i32_270 c1_i32_272 k0_t6
  let c512_i32 : BitVec 32 := 512#32
  let v303 : BitVec 32 := Scalar.muli arg13 c512_i32
  let v304 : Index := Scalar.indexCast v303
  let c0_400 : Index := 0#32
  ![v304.toNat, 0]
def k0_off16 (k0_t6 : Fin k0_t6_loop.trips) : Fin 2 → Nat :=
  let c0_i32_270 : BitVec 32 := 0#32
  let c1_i32_272 : BitVec 32 := 1#32
  let arg13 : BitVec 32 := Scf.iv c0_i32_270 c1_i32_272 k0_t6
  let c512_i32 : BitVec 32 := 512#32
  let v303 : BitVec 32 := Scalar.muli arg13 c512_i32
  let v307 : Index := Scalar.indexCast v303
  let c0_401 : Index := 0#32
  ![v307.toNat, 0]
def k0_off17 (k0_t6 : Fin k0_t6_loop.trips) : Fin 2 → Nat :=
  let c0_i32_270 : BitVec 32 := 0#32
  let c1_i32_272 : BitVec 32 := 1#32
  let arg13 : BitVec 32 := Scf.iv c0_i32_270 c1_i32_272 k0_t6
  let c512_i32 : BitVec 32 := 512#32
  let v303 : BitVec 32 := Scalar.muli arg13 c512_i32
  let v312 : Index := Scalar.indexCast v303
  let c0_403 : Index := 0#32
  ![v312.toNat, 0]
def k0_dev9 (d0 : Dev nD) : Nat :=
  let c0_i32_289 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_288 : BitVec 32 := 1#32
  let v229 : BitVec 32 := Scalar.muli v5 c1_i32_288
  let v230 : BitVec 32 := Scalar.addi c0_i32_289 v229
  v230.toNat
def k0_dev10 (d0 : Dev nD) : Nat :=
  let c0_i32_311 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_310 : BitVec 32 := 1#32
  let v245 : BitVec 32 := Scalar.muli v7 c1_i32_310
  let v246 : BitVec 32 := Scalar.addi c0_i32_311 v245
  v246.toNat
@[reducible] def k0_t7_loop : Scf.Loop 32 :=
  let c0_i32_345 : BitVec 32 := 0#32
  let c4_i32_346 : BitVec 32 := 4#32
  let v273 : BitVec 32 := Scalar.addi c0_i32_345 c4_i32_346
  let c1_i32_347 : BitVec 32 := 1#32
  ⟨c0_i32_345, v273, c1_i32_347⟩
def k0_off18 (k0_t7 : Fin k0_t7_loop.trips) : Fin 2 → Nat :=
  let c0_i32_345 : BitVec 32 := 0#32
  let c1_i32_347 : BitVec 32 := 1#32
  let arg13 : BitVec 32 := Scf.iv c0_i32_345 c1_i32_347 k0_t7
  let c512_i32 : BitVec 32 := 512#32
  let v303 : BitVec 32 := Scalar.muli arg13 c512_i32
  let v304 : Index := Scalar.indexCast v303
  let c0_400 : Index := 0#32
  ![v304.toNat, 0]
def k0_off19 (k0_t7 : Fin k0_t7_loop.trips) : Fin 2 → Nat :=
  let c0_i32_345 : BitVec 32 := 0#32
  let c1_i32_347 : BitVec 32 := 1#32
  let arg13 : BitVec 32 := Scf.iv c0_i32_345 c1_i32_347 k0_t7
  let c512_i32 : BitVec 32 := 512#32
  let v303 : BitVec 32 := Scalar.muli arg13 c512_i32
  let v307 : Index := Scalar.indexCast v303
  let c0_401 : Index := 0#32
  ![v307.toNat, 0]
def k0_off20 (k0_t7 : Fin k0_t7_loop.trips) : Fin 2 → Nat :=
  let c0_i32_345 : BitVec 32 := 0#32
  let c1_i32_347 : BitVec 32 := 1#32
  let arg13 : BitVec 32 := Scf.iv c0_i32_345 c1_i32_347 k0_t7
  let c512_i32 : BitVec 32 := 512#32
  let v303 : BitVec 32 := Scalar.muli arg13 c512_i32
  let v312 : Index := Scalar.indexCast v303
  let c0_403 : Index := 0#32
  ![v312.toNat, 0]
@[reducible] def k0_t8_loop : Scf.Loop 32 :=
  let c0_i32_374 : BitVec 32 := 0#32
  let c4_i32_375 : BitVec 32 := 4#32
  let v290 : BitVec 32 := Scalar.addi c0_i32_374 c4_i32_375
  let c1_i32_376 : BitVec 32 := 1#32
  ⟨c0_i32_374, v290, c1_i32_376⟩
def k0_off21 (k0_t8 : Fin k0_t8_loop.trips) : Fin 2 → Nat :=
  let c0_i32_374 : BitVec 32 := 0#32
  let c1_i32_376 : BitVec 32 := 1#32
  let arg13 : BitVec 32 := Scf.iv c0_i32_374 c1_i32_376 k0_t8
  let c512_i32 : BitVec 32 := 512#32
  let v303 : BitVec 32 := Scalar.muli arg13 c512_i32
  let v304 : Index := Scalar.indexCast v303
  let c0_400 : Index := 0#32
  ![v304.toNat, 0]
def k0_off22 (k0_t8 : Fin k0_t8_loop.trips) : Fin 2 → Nat :=
  let c0_i32_374 : BitVec 32 := 0#32
  let c1_i32_376 : BitVec 32 := 1#32
  let arg13 : BitVec 32 := Scf.iv c0_i32_374 c1_i32_376 k0_t8
  let c512_i32 : BitVec 32 := 512#32
  let v303 : BitVec 32 := Scalar.muli arg13 c512_i32
  let v307 : Index := Scalar.indexCast v303
  let c0_401 : Index := 0#32
  ![v307.toNat, 0]
def k0_off23 (k0_t8 : Fin k0_t8_loop.trips) : Fin 2 → Nat :=
  let c0_i32_374 : BitVec 32 := 0#32
  let c1_i32_376 : BitVec 32 := 1#32
  let arg13 : BitVec 32 := Scf.iv c0_i32_374 c1_i32_376 k0_t8
  let c512_i32 : BitVec 32 := 512#32
  let v303 : BitVec 32 := Scalar.muli arg13 c512_i32
  let v312 : Index := Scalar.indexCast v303
  let c0_403 : Index := 0#32
  ![v312.toNat, 0]
abbrev stage0_0 : Fin 1 → Memref sig .tc .vmem S2048x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x32 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S8192x512 : Shape := ⟨2, ![8192, 512]⟩
abbrev S512x32 : Shape := ⟨2, ![512, 32]⟩
abbrev S8192x1 : Shape := ⟨2, ![8192, 1]⟩
abbrev S32x512x1024 : Shape := ⟨3, ![32, 512, 1024]⟩
abbrev S512x1024 : Shape := ⟨2, ![512, 1024]⟩
abbrev S8192x32 : Shape := ⟨2, ![8192, 32]⟩
abbrev S_ : Shape := ⟨0, ![]⟩
abbrev S8192 : Shape := ⟨1, ![8192]⟩
abbrev S8192x1024 : Shape := ⟨2, ![8192, 1024]⟩
abbrev S8192x2 : Shape := ⟨2, ![8192, 2]⟩
abbrev S8192x512x1024 : Shape := ⟨3, ![8192, 512, 1024]⟩

abbrev nBuf : Space → Nat
  | .hbm => 56
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S512x32, .bf16⟩
  | .hbm, ⟨2, _⟩ => ⟨S8192x1, .i32⟩
  | .hbm, ⟨3, _⟩ => ⟨S32x512x1024, .f32⟩
  | .hbm, ⟨4, _⟩ => ⟨S512x1024, .bf16⟩
  | .hbm, ⟨5, _⟩ => ⟨S8192x512, .f32⟩
  | .hbm, ⟨6, _⟩ => ⟨S512x32, .f32⟩
  | .hbm, ⟨7, _⟩ => ⟨S8192x32, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S8192x32, .f32⟩
  | .hbm, ⟨12, _⟩ => ⟨S8192x32, .f32⟩
  | .hbm, ⟨13, _⟩ => ⟨S8192x32, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S8192x32, .f32⟩
  | .hbm, ⟨18, _⟩ => ⟨S8192x32, .f32⟩
  | .hbm, ⟨19, _⟩ => ⟨S512x1024, .f32⟩
  | .hbm, ⟨20, _⟩ => ⟨S8192x1024, .f32⟩
  | .hbm, ⟨21, _⟩ => ⟨S8192, .i32⟩
  | .hbm, ⟨22, _⟩ => ⟨S8192, .i32⟩
  | .hbm, ⟨23, _⟩ => ⟨S_, .i32⟩
  | .hbm, ⟨24, _⟩ => ⟨S8192, .i32⟩
  | .hbm, ⟨25, _⟩ => ⟨S8192, .i1⟩
  | .hbm, ⟨26, _⟩ => ⟨S_, .i32⟩
  | .hbm, ⟨27, _⟩ => ⟨S8192, .i32⟩
  | .hbm, ⟨28, _⟩ => ⟨S8192, .i32⟩
  | .hbm, ⟨29, _⟩ => ⟨S8192, .i32⟩
  | .hbm, ⟨30, _⟩ => ⟨S_, .i32⟩
  | .hbm, ⟨31, _⟩ => ⟨S8192, .i32⟩
  | .hbm, ⟨32, _⟩ => ⟨S8192, .i1⟩
  | .hbm, ⟨33, _⟩ => ⟨S_, .i32⟩
  | .hbm, ⟨34, _⟩ => ⟨S8192, .i32⟩
  | .hbm, ⟨35, _⟩ => ⟨S8192, .i32⟩
  | .hbm, ⟨36, _⟩ => ⟨S8192, .i32⟩
  | .hbm, ⟨37, _⟩ => ⟨S8192x1, .i32⟩
  | .hbm, ⟨38, _⟩ => ⟨S8192x1, .i32⟩
  | .hbm, ⟨39, _⟩ => ⟨S8192x2, .i32⟩
  | .hbm, ⟨40, _⟩ => ⟨S8192, .f32⟩
  | .hbm, ⟨41, _⟩ => ⟨S_, .i32⟩
  | .hbm, ⟨42, _⟩ => ⟨S8192, .i32⟩
  | .hbm, ⟨43, _⟩ => ⟨S8192, .i1⟩
  | .hbm, ⟨44, _⟩ => ⟨S_, .i32⟩
  | .hbm, ⟨45, _⟩ => ⟨S8192, .i32⟩
  | .hbm, ⟨46, _⟩ => ⟨S8192, .i32⟩
  | .hbm, ⟨47, _⟩ => ⟨S8192, .i32⟩
  | .hbm, ⟨48, _⟩ => ⟨S8192x1, .i32⟩
  | .hbm, ⟨49, _⟩ => ⟨S8192x512x1024, .f32⟩
  | .hbm, ⟨50, _⟩ => ⟨S8192x1024, .f32⟩
  | .hbm, ⟨51, _⟩ => ⟨S8192x1, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_c : Ref sig .tc := ⟨.hbm, 23, rfl⟩
abbrev main_v16 : Ref sig .tc := ⟨.hbm, 24, rfl⟩
abbrev main_v17 : Ref sig .tc := ⟨.hbm, 25, rfl⟩
abbrev main_c_1 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_c_2 : Ref sig .tc := ⟨.hbm, 30, rfl⟩
abbrev main_v21 : Ref sig .tc := ⟨.hbm, 31, rfl⟩
abbrev main_v22 : Ref sig .tc := ⟨.hbm, 32, rfl⟩
abbrev main_c_3 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_c_4 : Ref sig .tc := ⟨.hbm, 41, rfl⟩
abbrev main_v30 : Ref sig .tc := ⟨.hbm, 42, rfl⟩
abbrev main_v31 : Ref sig .tc := ⟨.hbm, 43, rfl⟩
abbrev main_c_5 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩

abbrev nD : Nat := 1
abbrev τ : Topo := Topo.v7x

variable {F : FTy → Type} [FloatOps F]
-- ==== Proof.Common.lean ====
/-
The kernel's ring of four devices, its buffers, and the parts of the buffers its remote copies move.

The kernel holds eight experts' weights on each device.  A device narrows its own eight into `own`, and the ring
carries them to the other three devices, which gather them into three slots of `gather`: slot 0 holds the experts of
the device before, slot 1 those of the device after, slot 2 those of the device opposite.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Exec.Geometry
public import Idealize.ShloMosaic.Lib.Scf
public import Idealize.ShloMosaic.Lib.Tactic

@[expose] public section

set_option maxRecDepth 16384

noncomputable section

namespace Cert.ExpertProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: one copy of the rounds for the staging pipeline, one (duties named by `Bool`) for the ring, counters for the local copies -/

abbrev UB : Type := URounds (GSem nD τ sig) Bool
abbrev UU : Type := UR sig nD τ × (UB × Counters)

abbrev EP : Emb (UR sig nD τ) (MT nD τ sig Unit (Elt F) ℕ UU ℕ) := embL
abbrev ER : Emb UB (MT nD τ sig Unit (Elt F) ℕ UU ℕ) := (Emb.inl : Emb UB (UB × Counters)).trans embR

local notation "𝕄" => MT nD τ sig Unit (Elt F) ℕ UU ℕ

/-! ## The ring -/

set_option backward.proofsInPublic true in
/-- The device after `c`. -/
def nxt (c : Dev nD) : Dev nD := ⟨(c.val + 1) % 4, Nat.mod_lt _ (by decide)⟩
set_option backward.proofsInPublic true in
/-- The device before `c`. -/
def prv (c : Dev nD) : Dev nD := ⟨(c.val + 3) % 4, Nat.mod_lt _ (by decide)⟩

theorem prv_nxt (c : Dev nD) : prv (nxt c) = c := by revert c; decide
theorem nxt_prv (c : Dev nD) : nxt (prv c) = c := by revert c; decide
theorem nxt_ne_prv (c : Dev nD) : nxt c ≠ prv c := by revert c; decide
theorem prv_prv (c : Dev nD) : prv (prv c) = nxt (nxt c) := by revert c; decide

/-- The ring as a permutation of the devices. -/
def ring : Dev nD ≃ Dev nD := ⟨nxt, prv, prv_nxt, nxt_prv⟩

/-- The device whose experts slot `s` of `c`'s gather buffer holds. -/
def srcDev (c : Dev nD) : Fin 3 → Dev nD
  | 0 => prv c
  | 1 => nxt c
  | 2 => nxt (nxt c)

/-! ## The buffers -/

abbrev xM : Memref sig .tc .vmem S2048x512 .bf16 := Memref.whole cc0_stg0_0
abbrev rM : Memref sig .tc .vmem S512x32 .bf16 := Memref.whole cc0_stg1_0
abbrev iM : Memref sig .tc .vmem S2048x1 .i32 := Memref.whole cc0_stg2_0
abbrev eM : Memref sig .tc .hbm S8x512x1024 .f32 := Memref.whole main_arg3
abbrev sM : Memref sig .tc .vmem S512x1024 .bf16 := Memref.whole cc0_stg3_0
abbrev oM : Memref sig .tc .vmem S2048x1024 .bf16 := Memref.whole cc0_stg4_0
abbrev gM : Memref sig .tc .vmem S3x8x512x1024 .bf16 := Memref.whole cc0_scratch0
abbrev aM : Memref sig .tc .vmem S2x512x1024 .f32 := Memref.whole cc0_scratch1
abbrev wM : Memref sig .tc .vmem S8x512x1024 .bf16 := Memref.whole cc0_scratch2
abbrev pM : Memref sig .tc .vmem S2048x1 .f32 := Memref.whole cc0_scratch3

set_option backward.proofsInPublic true in
theorem slot_inb (s : Fin 3) : ∀ a, (![s.val, 0, 0, 0] : Fin 4 → ℕ) a + S1x8x512x1024.size a ≤ S3x8x512x1024.size a := by
  revert s; decide

/-- Slot `s` of the gather buffer, as eight experts. -/
abbrev slotM (s : Fin 3) : Memref sig .tc .vmem S8x512x1024 .bf16 :=
  (gM.slice (Rect.unit (s := S3x8x512x1024) ![s.val, 0, 0, 0] S1x8x512x1024.size (slot_inb s)) (fun _ => rfl)).squeeze S8x512x1024
    squeezes_S1x8x512x1024_S8x512x1024

set_option backward.proofsInPublic true in
theorem expert_inb (j : Fin 8) : ∀ a, (![j.val, 0, 0] : Fin 3 → ℕ) a + S1x512x1024.size a ≤ S8x512x1024.size a := by
  revert j; decide

/-- Expert `j` among eight. -/
abbrev wR (j : Fin 8) : Rect S8x512x1024 := Rect.unit (s := S8x512x1024) ![j.val, 0, 0] S1x512x1024.size (expert_inb j)

end Cert.ExpertProof
-- ==== Proof.Pieces.lean ====
/-
The parts of the buffers that are moved: which elements they are, and what they hold.
-/
module

public import proofs.«01_k».proof.Proof.Common
public import Idealize.ShloMosaic.Lib.ValueLayout

@[expose] public section

set_option maxRecDepth 16384

noncomputable section

namespace Cert.ExpertProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

/-! ## Element sets -/

/-- Experts `a` up to `b` of the eight. -/
def blkO (a b : ℕ) : Finset S8x512x1024.Idx := Finset.univ.filter fun i => a ≤ (i 0).val ∧ (i 0).val < b

/-- Experts `a` up to `b` of slot `s`. -/
def blkG (s a b : ℕ) : Finset S3x8x512x1024.Idx :=
  Finset.univ.filter fun i => (i 0).val = s ∧ a ≤ (i 1).val ∧ (i 1).val < b

theorem mem_blkO {a b : ℕ} {i : S8x512x1024.Idx} : i ∈ blkO a b ↔ a ≤ (i 0).val ∧ (i 0).val < b := by simp [blkO]
theorem mem_blkG {s a b : ℕ} {i : S3x8x512x1024.Idx} : i ∈ blkG s a b ↔ (i 0).val = s ∧ a ≤ (i 1).val ∧ (i 1).val < b := by simp [blkG]

theorem blkO_univ : blkO 0 8 = Finset.univ := by
  ext i; rw [mem_blkO]; have := (i 0).isLt; simp only [Finset.mem_univ, iff_true]; exact ⟨Nat.zero_le _, this⟩

theorem blkO_split {a b c : ℕ} (h : a ≤ b) (h' : b ≤ c) : blkO a c = blkO a b ∪ blkO b c := by
  ext i; simp only [Finset.mem_union, mem_blkO]; omega
theorem blkO_disj {a b c : ℕ} : Disjoint (blkO a b) (blkO b c) := by
  rw [Finset.disjoint_left]; intro i; simp only [mem_blkO]; omega
theorem blkG_split {s a b c : ℕ} (h : a ≤ b) (h' : b ≤ c) : blkG s a c = blkG s a b ∪ blkG s b c := by
  ext i; simp only [Finset.mem_union, mem_blkG]; omega
theorem blkG_disj {s a b c : ℕ} : Disjoint (blkG s a b) (blkG s b c) := by
  rw [Finset.disjoint_left]; intro i; simp only [mem_blkG]; omega
theorem blkG_disj' {s s' a b a' b' : ℕ} (h : s ≠ s') : Disjoint (blkG s a b) (blkG s' a' b') := by
  rw [Finset.disjoint_left]; intro i; simp only [mem_blkG]; omega
theorem blkG_univ : (Finset.univ : Finset S3x8x512x1024.Idx) = blkG 0 0 8 ∪ (blkG 1 0 8 ∪ blkG 2 0 8) := by
  ext i
  have h0 : (i 0).val < 3 := (i 0).isLt
  have h1 : (i 1).val < 8 := (i 1).isLt
  simp only [Finset.mem_union, mem_blkG, Finset.mem_univ, true_iff]; omega

/-! ## The slices -/

set_option backward.proofsInPublic true in
theorem ownQ_inb {a : ℕ} (h : a + 4 ≤ 8) : ∀ x, (![a, 0, 0] : Fin 3 → ℕ) x + S4x512x1024.size x ≤ S8x512x1024.size x := by
  intro x; fin_cases x
  · exact h
  · exact Nat.le_refl _
  · exact Nat.le_refl _
set_option backward.proofsInPublic true in
theorem gatQ_inb {s a : ℕ} (h : s < 3 ∧ a + 4 ≤ 8) : ∀ x, (![s, a, 0, 0] : Fin 4 → ℕ) x + S1x4x512x1024.size x ≤ S3x8x512x1024.size x := by
  intro x; fin_cases x
  · exact h.1
  · exact h.2
  · exact Nat.le_refl _
  · exact Nat.le_refl _
set_option backward.proofsInPublic true in
theorem gatP_inb {s a : ℕ} (h : s < 3 ∧ a + 2 ≤ 8) : ∀ x, (![s, a, 0, 0] : Fin 4 → ℕ) x + S1x2x512x1024.size x ≤ S3x8x512x1024.size x := by
  intro x; fin_cases x
  · exact h.1
  · exact h.2
  · exact Nat.le_refl _
  · exact Nat.le_refl _

/-- Four of the device's own experts, from `a`. -/
abbrev ownQ (a : ℕ) (h : a + 4 ≤ 8) : Memref sig .tc .vmem S4x512x1024 .bf16 :=
  wM.slice (Rect.unit (s := S8x512x1024) ![a, 0, 0] S4x512x1024.size (ownQ_inb h)) (fun _ => rfl)
/-- Four experts of slot `s`, from `a`. -/
abbrev gatQ (s a : ℕ) (h : s < 3 ∧ a + 4 ≤ 8) : Memref sig .tc .vmem S4x512x1024 .bf16 :=
  (gM.slice (Rect.unit (s := S3x8x512x1024) ![s, a, 0, 0] S1x4x512x1024.size (gatQ_inb h)) (fun _ => rfl)).squeeze S4x512x1024
    squeezes_S1x4x512x1024_S4x512x1024
/-- Two experts of slot `s`, from `a`. -/
abbrev gatP (s a : ℕ) (h : s < 3 ∧ a + 2 ≤ 8) : Memref sig .tc .vmem S2x512x1024 .bf16 :=
  (gM.slice (Rect.unit (s := S3x8x512x1024) ![s, a, 0, 0] S1x2x512x1024.size (gatP_inb h)) (fun _ => rfl)).squeeze S2x512x1024
    squeezes_S1x2x512x1024_S2x512x1024

theorem ownQ_emb (a : ℕ) (h : a + 4 ≤ 8) (x : S4x512x1024.Idx) :
    ((ownQ a h).view.emb x : S8x512x1024.Idx)
      = ix3 ⟨a + (x 0).val, by have : (x 0).val < 4 := (x 0).isLt; omega⟩ (x 1 : Fin 512) (x 2 : Fin 1024) := by
  funext b
  fin_cases b
  · exact Fin.ext (show a + 1 * (x 0).val = a + (x 0).val by rw [Nat.one_mul])
  · exact Fin.ext (show 0 + 1 * (x 1).val = (x 1).val by omega)
  · exact Fin.ext (show 0 + 1 * (x 2).val = (x 2).val by omega)

theorem gatQ_emb (s a : ℕ) (h : s < 3 ∧ a + 4 ≤ 8) (x : S4x512x1024.Idx) :
    ((gatQ s a h).view.emb x : S3x8x512x1024.Idx)
      = ix4 ⟨s, h.1⟩ ⟨a + (x 0).val, by have : (x 0).val < 4 := (x 0).isLt; omega⟩ (x 1 : Fin 512) (x 2 : Fin 1024) := by
  have hx : x = ix3 (n0 := 4) (n1 := 512) (n2 := 1024) (x 0) (x 1) (x 2) := eq_ix3 _
  refine (congrArg (gatQ s a h).view.emb hx).trans ?_
  refine (congrArg (Rect.unit (s := S3x8x512x1024) ![s, a, 0, 0] S1x4x512x1024.size (gatQ_inb h)).emb
    (reshapeEquiv_ix3_1abc (a := 4) (b := 512) (c := 1024) _ (x 0) (x 1) (x 2))).trans ?_
  funext b
  fin_cases b <;> exact Fin.ext (by show _ + 1 * _ = _; simp)

theorem gatP_emb (s a : ℕ) (h : s < 3 ∧ a + 2 ≤ 8) (x : S2x512x1024.Idx) :
    ((gatP s a h).view.emb x : S3x8x512x1024.Idx)
      = ix4 ⟨s, h.1⟩ ⟨a + (x 0).val, by have : (x 0).val < 2 := (x 0).isLt; omega⟩ (x 1 : Fin 512) (x 2 : Fin 1024) := by
  have hx : x = ix3 (n0 := 2) (n1 := 512) (n2 := 1024) (x 0) (x 1) (x 2) := eq_ix3 _
  refine (congrArg (gatP s a h).view.emb hx).trans ?_
  refine (congrArg (Rect.unit (s := S3x8x512x1024) ![s, a, 0, 0] S1x2x512x1024.size (gatP_inb h)).emb
    (reshapeEquiv_ix3_1abc (a := 2) (b := 512) (c := 1024) _ (x 0) (x 1) (x 2))).trans ?_
  funext b
  fin_cases b <;> exact Fin.ext (by show _ + 1 * _ = _; simp)

theorem slotM_emb (s : Fin 3) (x : S8x512x1024.Idx) :
    ((slotM s).view.emb x : S3x8x512x1024.Idx) = ix4 s (x 0 : Fin 8) (x 1 : Fin 512) (x 2 : Fin 1024) := by
  have hx : x = ix3 (n0 := 8) (n1 := 512) (n2 := 1024) (x 0) (x 1) (x 2) := eq_ix3 _
  refine (congrArg (slotM s).view.emb hx).trans ?_
  refine (congrArg (Rect.unit (s := S3x8x512x1024) ![s.val, 0, 0, 0] S1x8x512x1024.size (slot_inb s)).emb
    (reshapeEquiv_ix3_1abc (a := 8) (b := 512) (c := 1024) _ (x 0) (x 1) (x 2))).trans ?_
  funext b
  fin_cases b <;> exact Fin.ext (by show _ + 1 * _ = _; simp)

theorem ownQ_set (a : ℕ) (h : a + 4 ≤ 8) : ((ownQ a h).view.set : Finset S8x512x1024.Idx) = blkO a (a + 4) := by
  refine (View.set_slice_whole _ _).trans ?_
  ext i
  rw [Rect.mem_set_unit, mem_blkO]
  have h1 : (i 1).val < 512 := (i 1).isLt
  have h2 : (i 2).val < 1024 := (i 2).isLt
  exact ⟨fun hh => hh 0, fun hh b => by fin_cases b; exacts [hh, ⟨Nat.zero_le _, (Nat.zero_add _).symm ▸ h1⟩, ⟨Nat.zero_le _, (Nat.zero_add _).symm ▸ h2⟩]⟩

theorem gatQ_set (s a : ℕ) (h : s < 3 ∧ a + 4 ≤ 8) : ((gatQ s a h).view.set : Finset S3x8x512x1024.Idx) = blkG s a (a + 4) := by
  refine ((View.set_reshape _ _).trans (View.set_slice_whole _ _)).trans ?_
  ext i
  rw [Rect.mem_set_unit, mem_blkG]
  have h2 : (i 2).val < 512 := (i 2).isLt
  have h3 : (i 3).val < 1024 := (i 3).isLt
  constructor
  · intro hh
    have h0 : s ≤ (i 0).val ∧ (i 0).val < s + 1 := hh 0
    exact ⟨by omega, hh 1⟩
  · intro hh b
    fin_cases b
    exacts [⟨by show s ≤ (i 0).val; omega, by show (i 0).val < s + 1; omega⟩, hh.2, ⟨Nat.zero_le _, (Nat.zero_add _).symm ▸ h2⟩, ⟨Nat.zero_le _, (Nat.zero_add _).symm ▸ h3⟩]

theorem gatP_set (s a : ℕ) (h : s < 3 ∧ a + 2 ≤ 8) : ((gatP s a h).view.set : Finset S3x8x512x1024.Idx) = blkG s a (a + 2) := by
  refine ((View.set_reshape _ _).trans (View.set_slice_whole _ _)).trans ?_
  ext i
  rw [Rect.mem_set_unit, mem_blkG]
  have h2 : (i 2).val < 512 := (i 2).isLt
  have h3 : (i 3).val < 1024 := (i 3).isLt
  constructor
  · intro hh
    have h0 : s ≤ (i 0).val ∧ (i 0).val < s + 1 := hh 0
    exact ⟨by omega, hh 1⟩
  · intro hh b
    fin_cases b
    exacts [⟨by show s ≤ (i 0).val; omega, by show (i 0).val < s + 1; omega⟩, hh.2, ⟨Nat.zero_le _, (Nat.zero_add _).symm ▸ h2⟩, ⟨Nat.zero_le _, (Nat.zero_add _).symm ▸ h3⟩]

/-! ## Contents -/

variable (m : (ℓ : Loc nD τ sig) → Buf (Elt F) ℓ)

/-- Device `c`'s experts as the launch finds them, -/
def ewB (c : Dev nD) : FVec F S8x512x1024 .f32 := m ((c : Thread nD τ).loc main_arg3)
/-- narrowed, -/
def ownB (c : Dev nD) : FVec F S8x512x1024 .bf16 := truncf .bf16 (ewB m c) bitsLt_bf16_f32
/-- and gathered from the three other devices. -/
def gB (c : Dev nD) : FVec F S3x8x512x1024 .bf16 := fun i => ownB m (srcDev c (i 0)) (ix3 (i 1 : Fin 8) (i 2 : Fin 512) (i 3 : Fin 1024))

/-- Slot 0 of the next device and slot 1 of the device before receive the device's own experts. -/
theorem srcDev_nxt (c : Dev nD) : srcDev (nxt c) 0 = c := prv_nxt c
theorem srcDev_prv (c : Dev nD) : srcDev (prv c) 1 = c := nxt_prv c
/-- Slot 2 receives what slot 0 of the device before, or slot 1 of the device after, holds. -/
theorem srcDev_two_nxt (c : Dev nD) : srcDev (nxt c) 2 = srcDev c 0 := by revert c; decide
theorem srcDev_two_prv (c : Dev nD) : srcDev (prv c) 2 = srcDev c 1 := by revert c; decide

/-- A copy of four own experts into slot `s` of device `d`, on the elements it writes. -/
theorem landQ (c d : Dev nD) (s a : ℕ) (h : s < 3 ∧ a + 4 ≤ 8) (h' : a + 4 ≤ 8) (hd : srcDev d ⟨s, h.1⟩ = c)
    (fd : FVec F S3x8x512x1024 .bf16) (i : S3x8x512x1024.Idx) (hi : i ∈ blkG s a (a + 4)) :
    (gatQ s a h).view.write (Elt F) fd ((ownQ a h').view.read (Elt F) (ownB m c)) Finset.univ i = gB m d i := by
  rw [← gatQ_set s a h] at hi
  obtain ⟨x, -, rfl⟩ := Finset.mem_map.mp hi
  rw [View.write_emb_of_mem _ _ (Finset.mem_univ x)]
  show ownB m c ((ownQ a h').view.emb x) = gB m d ((gatQ s a h).view.emb x)
  rw [ownQ_emb, gatQ_emb, ← hd]
  rfl

/-- A copy of two experts of slot `s` of `c` into slot 2 of device `d`, on the elements it writes. -/
theorem landP (c d : Dev nD) (s a : ℕ) (h : s < 3 ∧ a + 2 ≤ 8) (h' : 2 < 3 ∧ a + 2 ≤ 8) (hd : srcDev d 2 = srcDev c ⟨s, h.1⟩)
    (fd : FVec F S3x8x512x1024 .bf16) (i : S3x8x512x1024.Idx) (hi : i ∈ blkG 2 a (a + 2)) :
    (gatP 2 a h').view.write (Elt F) fd ((gatP s a h).view.read (Elt F) (gB m c)) Finset.univ i = gB m d i := by
  rw [← gatP_set 2 a h'] at hi
  obtain ⟨x, -, rfl⟩ := Finset.mem_map.mp hi
  rw [View.write_emb_of_mem _ _ (Finset.mem_univ x)]
  show gB m c ((gatP s a h).view.emb x) = gB m d ((gatP 2 a h').view.emb x)
  rw [gatP_emb, gatP_emb]
  show ownB m (srcDev c ⟨s, h.1⟩) _ = ownB m (srcDev d 2) _
  rw [hd]

/-- Part of a device's own experts, held at the share `q`; -/
def ownPts (c : Dev nD) (q : PosShare TreeShare) (a b : ℕ) (f : FVec F S8x512x1024 .bf16) : sProp 𝕄 :=
  ((c : Thread nD τ).loc cc0_scratch2) ↦[blkO a b]{q} f
/-- part of its gathered experts. -/
def gatPts (c : Dev nD) (q : PosShare TreeShare) (s a b : ℕ) (f : FVec F S3x8x512x1024 .bf16) : sProp 𝕄 :=
  ((c : Thread nD τ).loc cc0_scratch0) ↦[blkG s a b]{q} f

instance ownPts_storable (c : Dev nD) (q a b) (f) : BI.Storable (upEmb : UEmb _ 𝕄) (ownPts (F := F) c q a b f) := by unfold ownPts; infer_instance
instance gatPts_storable (c : Dev nD) (q s a b) (f) : BI.Storable (upEmb : UEmb _ 𝕄) (gatPts (F := F) c q s a b f) := by unfold gatPts; infer_instance

theorem ownPts_split (c : Dev nD) (q) {a b d : ℕ} (h : a ≤ b) (h' : b ≤ d) (f : FVec F S8x512x1024 .bf16) :
    ownPts c q a d f ⊣⊢ iprop(ownPts c q a b f ∗ ownPts c q b d f) := by
  unfold ownPts; rw [blkO_split h h']; exact pointsTo_union blkO_disj
theorem gatPts_split (c : Dev nD) (q) {s a b d : ℕ} (h : a ≤ b) (h' : b ≤ d) (f : FVec F S3x8x512x1024 .bf16) :
    gatPts c q s a d f ⊣⊢ iprop(gatPts c q s a b f ∗ gatPts c q s b d f) := by
  unfold gatPts; rw [blkG_split h h']; exact pointsTo_union blkG_disj
theorem ownPts_halve (c : Dev nD) (q) (a b : ℕ) (f : FVec F S8x512x1024 .bf16) :
    ownPts c q a b f ⊣⊢ iprop(ownPts c q.left a b f ∗ ownPts c q.right a b f) := by
  unfold ownPts; exact pointsTo_share (PosShare.mem_left_op_right q)
theorem gatPts_halve (c : Dev nD) (q) (s a b : ℕ) (f : FVec F S3x8x512x1024 .bf16) :
    gatPts c q s a b f ⊣⊢ iprop(gatPts c q.left s a b f ∗ gatPts c q.right s a b f) := by
  unfold gatPts; exact pointsTo_share (PosShare.mem_left_op_right q)

/-- The whole gather buffer is its three slots. -/
theorem gatPts_slots (c : Dev nD) (q) (f : FVec F S3x8x512x1024 .bf16) :
    (((c : Thread nD τ).loc cc0_scratch0) ↦{q} f : sProp 𝕄) ⊣⊢ iprop(gatPts c q 0 0 8 f ∗ gatPts c q 1 0 8 f ∗ gatPts c q 2 0 8 f) := by
  unfold gatPts
  show (((c : Thread nD τ).loc cc0_scratch0) ↦[Finset.univ]{q} f : sProp 𝕄) ⊣⊢ _
  have e : (Finset.univ : Finset (Idx ((c : Thread nD τ).loc cc0_scratch0))) = blkG 0 0 8 ∪ (blkG 1 0 8 ∪ blkG 2 0 8) := blkG_univ
  rw [e]
  have d1 : Disjoint (blkG 1 0 8) (blkG 2 0 8) := blkG_disj' (by decide)
  have d0 : Disjoint (blkG 0 0 8) (blkG 1 0 8 ∪ blkG 2 0 8) := Finset.disjoint_union_right.mpr ⟨blkG_disj' (by decide), blkG_disj' (by decide)⟩
  exact ⟨(pointsTo_union d0).1.trans (sep_mono .rfl (pointsTo_union d1).1), (sep_mono .rfl (pointsTo_union d1).2).trans (pointsTo_union d0).2⟩

end Cert.ExpertProof
-- ==== Proof.Trip.lean ====
/-
The loops of the kernel: every trip handles 512 rows, and adds to their results what a few experts contribute.
-/
module

public import proofs.«01_k».proof.Proof.Pieces

@[expose] public section

set_option maxRecDepth 16384

noncomputable section

namespace Cert.ExpertProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- A program of one device's core. -/
abbrev ProgT (F : FTy → Type) [FloatOps F] (α : Type) : Type 1 := Prog (TpuEff nD τ sig (Elt F) Λ₀ .tc) α

/-! ## The values -/

/-- One expert's term added to 512 rows: the rows masked and scaled by their probability where their expert is number
    `8 v + j`, times the expert's weights. -/
def exAdd (v j : BitVec 32) (x : FVec F S512x512 .bf16) (ix : IVec S512x1 32) (p : Vec F S512x1 .f32)
    (acc : FVec F S512x1024 .f32) (w : Vec F S1x512x1024 .bf16) : FVec F S512x1024 .f32 :=
  addf acc
    (matmul dot_S512x512_S512x1024_S512x1024_1_0_0_1_n_n none
      (mulf x
        (broadcastTo S512x512
          (truncf .bf16
            (select (cmpi .eq ix (broadcast S512x1 (Scalar.addi (Scalar.muli v 8#32) j))) p
              (broadcast S512x1 (Scalar.ofBits .f32 0x00000000#32 : F .f32)))
            bitsLt_bf16_f32)
          broadcasts_S512x1_S512x512))
      (shapeCast S512x1024 w shapeCasts_S1x512x1024_S512x1024) (constant S512x1024 .f32 0x00000000#32))

/-- Four experts' terms added to 512 rows of the result. -/
def step4 (v : BitVec 32) (j : Fin 4 → BitVec 32) (x : Vec F S512x512 .bf16) (ix : Vec F S512x1 .i32) (p : Vec F S512x1 .f32)
    (w : Fin 4 → Vec F S1x512x1024 .bf16) (o : Vec F S512x1024 .bf16) : FVec F S512x1024 .bf16 :=
  let x' := shapeCast S512x512 x shapeCasts_S512x512_S512x512
  let i' : IVec S512x1 32 := shapeCast S512x1 ix shapeCasts_S512x1_S512x1
  let a0 : FVec F S512x1024 .f32 := extf .f32 (shapeCast S512x1024 o shapeCasts_S512x1024_S512x1024 : FVec F S512x1024 .bf16) bitsLt_bf16_f32
  let a1 := exAdd v (j 0) x' i' p a0 (w 0)
  let a2 := exAdd v (j 1) x' i' p a1 (w 1)
  let a3 := exAdd v (j 2) x' i' p a2 (w 2)
  let a4 := exAdd v (j 3) x' i' p a3 (w 3)
  truncf .bf16 a4 bitsLt_bf16_f32

/-- Eight experts' terms added to 512 rows of the result. -/
def step8 (v : BitVec 32) (x : Vec F S512x512 .bf16) (ix : Vec F S512x1 .i32) (p : Vec F S512x1 .f32)
    (w : Fin 8 → Vec F S1x512x1024 .bf16) (o : Vec F S512x1024 .bf16) : FVec F S512x1024 .bf16 :=
  let x' := shapeCast S512x512 x shapeCasts_S512x512_S512x512
  let i' : IVec S512x1 32 := shapeCast S512x1 ix shapeCasts_S512x1_S512x1
  let a0 : FVec F S512x1024 .f32 := extf .f32 (shapeCast S512x1024 o shapeCasts_S512x1024_S512x1024 : FVec F S512x1024 .bf16) bitsLt_bf16_f32
  let a1 := exAdd v 0#32 x' i' p a0 (w 0)
  let a2 := exAdd v 1#32 x' i' p a1 (w 1)
  let a3 := exAdd v 2#32 x' i' p a2 (w 2)
  let a4 := exAdd v 3#32 x' i' p a3 (w 3)
  let a5 := exAdd v 4#32 x' i' p a4 (w 4)
  let a6 := exAdd v 5#32 x' i' p a5 (w 5)
  let a7 := exAdd v 6#32 x' i' p a6 (w 6)
  let a8 := exAdd v 7#32 x' i' p a7 (w 7)
  truncf .bf16 a8 bitsLt_bf16_f32

/-! ## One trip as a program -/

/-- The four experts of two pairs. -/
def quad (a b : Fin 4) : Fin 4 → Fin 8
  | 0 => ⟨2 * a.val, by omega⟩
  | 1 => ⟨2 * a.val + 1, by omega⟩
  | 2 => ⟨2 * b.val, by omega⟩
  | 3 => ⟨2 * b.val + 1, by omega⟩

/-- Where the `k`-th 512 rows start, of the tokens, of a column, of the result. -/
def offX (k : Fin 4) : Fin 2 → ℕ := k0_off6 k
def offC (k : Fin 4) : Fin 2 → ℕ := k0_off7 k
def offO (k : Fin 4) : Fin 2 → ℕ := k0_off8 k
theorem offX_inb (k : Fin 4) : ∀ a, offX k a + S512x512.size a ≤ S2048x512.size a := k0_off6_inb k
theorem offC_inb (k : Fin 4) : ∀ a, offC k a + S512x1.size a ≤ S2048x1.size a := k0_off7_inb k
theorem offO_inb (k : Fin 4) : ∀ a, offO k a + S512x1024.size a ≤ S2048x1024.size a := k0_off8_inb k

/-- The `k`-th 512 rows of the tokens, of a column, of the result. -/
abbrev xR (k : Fin 4) : Rect S2048x512 := Rect.unit (s := S2048x512) (offX k) S512x512.size (offX_inb k)
abbrev cR (k : Fin 4) : Rect S2048x1 := Rect.unit (s := S2048x1) (offC k) S512x1.size (offC_inb k)
abbrev oR (k : Fin 4) : Rect S2048x1024 := Rect.unit (s := S2048x1024) (offO k) S512x1024.size (offO_inb k)
theorem oR_packed (k : Fin 4) : (oR k).PackedRows EltTy.bf16.packing := k0_off8_packedbf16 k

abbrev ldX (k : Fin 4) : ProgT F (Vec F S512x512 .bf16) := Prog.lift (.load xM (xR k).toLoadRect (View.loadsAt_vmem h_S512x512))
abbrev ldI (k : Fin 4) : ProgT F (Vec F S512x1 .i32) := Prog.lift (.load iM (cR k).toLoadRect (View.loadsAt_vmem h_S512x1))
abbrev ldP (k : Fin 4) : ProgT F (Vec F S512x1 .f32) := Prog.lift (.load pM (cR k).toLoadRect (View.loadsAt_vmem h_S512x1))
abbrev ldO (k : Fin 4) : ProgT F (Vec F S512x1024 .bf16) := Prog.lift (.load oM (oR k).toLoadRect (View.loadsAt_vmem h_S512x1024))
abbrev ldW (M : Memref sig .tc .vmem S8x512x1024 .bf16) (j : Fin 8) : ProgT F (Vec F S1x512x1024 .bf16) :=
  Prog.lift (.load M (Rect.unit (s := S8x512x1024) ![j.val, 0, 0] S1x512x1024.size (expert_inb j)).toLoadRect (View.loadsAt_vmem h_S1x512x1024))
abbrev stO (k : Fin 4) (w : FVec F S512x1024 .bf16) : ProgT F Unit :=
  Prog.lift (.store oM (oR k) w Finset.univ (View.stores_vmem h_S512x1024 ((Memref.isWhole_whole cc0_stg4_0).storeExact_slice rfl _ (oR_packed k)) (fun _ => rfl)) (.inl rfl))

/-- A trip over the experts of pairs `a` and `b` of eight experts in `M`. -/
def trip4 (M : Memref sig .tc .vmem S8x512x1024 .bf16) (v : BitVec 32) (j : Fin 4 → Fin 8) (k : Fin 4) : ProgT F Unit := do
  let x ← ldX k
  let ix ← ldI k
  let p ← ldP k
  let o ← ldO k
  let w0 ← ldW M (j 0)
  let w1 ← ldW M (j 1)
  let w2 ← ldW M (j 2)
  let w3 ← ldW M (j 3)
  let _ ← ldO k
  stO k (step4 v (fun i => BitVec.ofNat 32 (j i).val) x ix p ![w0, w1, w2, w3] o)

/-- A trip over all eight experts of the device's own. -/
def trip8 (v : BitVec 32) (k : Fin 4) : ProgT F Unit := do
  let x ← ldX k
  let ix ← ldI k
  let p ← ldP k
  let o ← ldO k
  let w0 ← ldW wM 0
  let w1 ← ldW wM 1
  let w2 ← ldW wM 2
  let w3 ← ldW wM 3
  let w4 ← ldW wM 4
  let w5 ← ldW wM 5
  let w6 ← ldW wM 6
  let w7 ← ldW wM 7
  let _ ← ldO k
  stO k (step8 v x ix p ![w0, w1, w2, w3, w4, w5, w6, w7] o)

/-- A trip that starts the rows' result: the rows times the shared weights. -/
def trip1 (s : FVec F S512x1024 .bf16) (k : Fin 4) : ProgT F Unit := do
  let x ← ldX k
  let _ ← ldO k
  stO k (k0_pay48 s x)

variable (v2 v5 v7 v257 w0 w1 : BitVec 32) (v158 : FVec F S512x1024 .bf16) (d0 : Dev nD) (k : Fin 4)

/-! The printed trips are these. -/

set_option maxRecDepth 65536 in
theorem t1_body_eq : k0_t1_body xM (Memref.isWhole_whole _) rM (Memref.isWhole_whole _) iM (Memref.isWhole_whole _) eM (Memref.isWhole_whole _) sM (Memref.isWhole_whole _)
    oM (Memref.isWhole_whole _) gM (Memref.isWhole_whole _) aM (Memref.isWhole_whole _) wM (Memref.isWhole_whole _) pM (Memref.isWhole_whole _)
    cc0_scratch4 cc0_scratch5 cc0_scratch6
    v2 v5 v7 v158 k ⟨⟩ = trip1 (F := F) v158 k := rfl

set_option maxRecDepth 65536 in
theorem t2_body_eq : k0_t2_body xM (Memref.isWhole_whole _) rM (Memref.isWhole_whole _) iM (Memref.isWhole_whole _) eM (Memref.isWhole_whole _) sM (Memref.isWhole_whole _)
    oM (Memref.isWhole_whole _) gM (Memref.isWhole_whole _) aM (Memref.isWhole_whole _) wM (Memref.isWhole_whole _) pM (Memref.isWhole_whole _)
    cc0_scratch4 cc0_scratch5 cc0_scratch6
    v2 v5 v7 v158 k ⟨⟩ = trip8 (F := F) v2 k := rfl

set_option maxRecDepth 65536 in
theorem t3_body_eq : k0_t3_body xM (Memref.isWhole_whole _) rM (Memref.isWhole_whole _) iM (Memref.isWhole_whole _) eM (Memref.isWhole_whole _) sM (Memref.isWhole_whole _)
    oM (Memref.isWhole_whole _) gM (Memref.isWhole_whole _) aM (Memref.isWhole_whole _) wM (Memref.isWhole_whole _) pM (Memref.isWhole_whole _)
    cc0_scratch4 cc0_scratch5 cc0_scratch6
    v2 v5 v7 v158 k ⟨⟩ = trip4 (F := F) (slotM 0) v5 (quad 0 1) k := rfl

set_option maxRecDepth 65536 in
theorem t4_body_eq : k0_t4_body xM (Memref.isWhole_whole _) rM (Memref.isWhole_whole _) iM (Memref.isWhole_whole _) eM (Memref.isWhole_whole _) sM (Memref.isWhole_whole _)
    oM (Memref.isWhole_whole _) gM (Memref.isWhole_whole _) aM (Memref.isWhole_whole _) wM (Memref.isWhole_whole _) pM (Memref.isWhole_whole _)
    cc0_scratch4 cc0_scratch5 cc0_scratch6
    d0 v5 v7 w0 w1 k ⟨⟩ = trip4 (F := F) (slotM 1) v7 (quad 0 1) k := rfl

set_option maxRecDepth 65536 in
theorem t5_body_eq : k0_t5_body xM (Memref.isWhole_whole _) rM (Memref.isWhole_whole _) iM (Memref.isWhole_whole _) eM (Memref.isWhole_whole _) sM (Memref.isWhole_whole _)
    oM (Memref.isWhole_whole _) gM (Memref.isWhole_whole _) aM (Memref.isWhole_whole _) wM (Memref.isWhole_whole _) pM (Memref.isWhole_whole _)
    cc0_scratch4 cc0_scratch5 cc0_scratch6
    d0 v5 v7 k ⟨⟩ = trip4 (F := F) (slotM 0) v5 (quad 2 3) k := rfl

set_option maxRecDepth 65536 in
theorem t6_body_eq : k0_t6_body xM (Memref.isWhole_whole _) rM (Memref.isWhole_whole _) iM (Memref.isWhole_whole _) eM (Memref.isWhole_whole _) sM (Memref.isWhole_whole _)
    oM (Memref.isWhole_whole _) gM (Memref.isWhole_whole _) aM (Memref.isWhole_whole _) wM (Memref.isWhole_whole _) pM (Memref.isWhole_whole _)
    cc0_scratch4 cc0_scratch5 cc0_scratch6
    d0 v5 v7 k ⟨⟩ = trip4 (F := F) (slotM 1) v7 (quad 2 3) k := rfl

set_option maxRecDepth 65536 in
theorem t7_body_eq : k0_t7_body xM (Memref.isWhole_whole _) rM (Memref.isWhole_whole _) iM (Memref.isWhole_whole _) eM (Memref.isWhole_whole _) sM (Memref.isWhole_whole _)
    oM (Memref.isWhole_whole _) gM (Memref.isWhole_whole _) aM (Memref.isWhole_whole _) wM (Memref.isWhole_whole _) pM (Memref.isWhole_whole _)
    cc0_scratch4 cc0_scratch5 cc0_scratch6
    v5 v7 v257 k ⟨⟩ = trip4 (F := F) (slotM 2) v257 (quad 0 2) k := rfl

set_option maxRecDepth 65536 in
theorem t8_body_eq : k0_t8_body xM (Memref.isWhole_whole _) rM (Memref.isWhole_whole _) iM (Memref.isWhole_whole _) eM (Memref.isWhole_whole _) sM (Memref.isWhole_whole _)
    oM (Memref.isWhole_whole _) gM (Memref.isWhole_whole _) aM (Memref.isWhole_whole _) wM (Memref.isWhole_whole _) pM (Memref.isWhole_whole _)
    cc0_scratch4 cc0_scratch5 cc0_scratch6
    v257 k ⟨⟩ = trip4 (F := F) (slotM 2) v257 (quad 1 3) k := rfl

/-! ## What a trip does -/

abbrev 𝒱₀ : Variants := Variants.none

/-- The weakest precondition of a program of device `c`. -/
abbrev WP (c : Dev nD) {α : Type} (p : ProgT F α) (Q : α → sProp 𝕄) : sProp 𝕄 :=
  wp frame (wpE (defs₀ (F := F)) 𝒱₀ (c : Thread nD τ) none) Set.univ p Q

/-- What the `k`-th 512 rows of a buffer hold. -/
def rdX (k : Fin 4) (f : FVec F S2048x512 .bf16) : Vec F S512x512 .bf16 :=
  xM.view.readAt (Elt F) (xR k).toLoadRect f
def rdI (k : Fin 4) (f : IVec S2048x1 32) : Vec F S512x1 .i32 :=
  iM.view.readAt (Elt F) (cR k).toLoadRect f
def rdP (k : Fin 4) (f : FVec F S2048x1 .f32) : Vec F S512x1 .f32 :=
  pM.view.readAt (Elt F) (cR k).toLoadRect f
def rdO (k : Fin 4) (f : FVec F S2048x1024 .bf16) : Vec F S512x1024 .bf16 :=
  oM.view.readAt (Elt F) (oR k).toLoadRect f
/-- The result with its `k`-th 512 rows replaced. -/
def stRow (k : Fin 4) (f : FVec F S2048x1024 .bf16) (w : FVec F S512x1024 .bf16) : FVec F S2048x1024 .bf16 :=
  (oM.access (oR k)).write (Elt F) f w Finset.univ
/-- One expert of slot `s`, and one of the device's own. -/
def rdG (s : Fin 3) (j : Fin 8) (g : FVec F S3x8x512x1024 .bf16) : Vec F S1x512x1024 .bf16 :=
  (slotM s).view.readAt (Elt F) (wR j).toLoadRect g
def rdW (j : Fin 8) (g : FVec F S8x512x1024 .bf16) : Vec F S1x512x1024 .bf16 :=
  wM.view.readAt (Elt F) (wR j).toLoadRect g

/-- The result after the first `n` trips of a loop whose trip `k` puts `f k` of the `k`-th rows in their place. -/
def rowsLoop (f : Fin 4 → Vec F S512x1024 .bf16 → FVec F S512x1024 .bf16) : ℕ → FVec F S2048x1024 .bf16 → FVec F S2048x1024 .bf16
  | 0, o => o
  | n + 1, o => if h : n < 4 then stRow ⟨n, h⟩ (rowsLoop f n o) (f ⟨n, h⟩ (rdO ⟨n, h⟩ (rowsLoop f n o))) else rowsLoop f n o

/-- A whole buffer of device `c`, held fully. -/
abbrev whole (c : Dev nD) (b : Ref sig .tc) (f : b.ty.Contents (Elt F)) : sProp 𝕄 := ((c : Thread nD τ).loc b) ↦{fullShare} f

theorem ret_wp (c : Dev nD) {α : Type} (a : α) {Q : α → sProp 𝕄} : Q a ⊢ WP c (.ret a : ProgT F α) Q := by
  show _ ⊢ wp _ _ _ _ _
  rw [wp_ret]; iintro H; imodintro; iexact H

section Triples

variable (c : Dev nD) (k : Fin 4) (xf : FVec F S2048x512 .bf16) (jf : IVec S2048x1 32) (pf : FVec F S2048x1 .f32) (o : FVec F S2048x1024 .bf16)

theorem slot_sub (s : Fin 3) (j : Fin 8) (a b : ℕ) (h : a ≤ j.val) (h' : j.val < b) :
    ((slotM s).view.setOn (wR j).toLoadRect.set : Finset S3x8x512x1024.Idx) ⊆ blkG s.val a b := by
  intro i hi
  obtain ⟨x, hx, rfl⟩ := Finset.mem_map.mp hi
  rw [Rect.mem_set_unit] at hx
  have h0 : j.val ≤ (x 0).val ∧ (x 0).val < j.val + 1 := hx 0
  rw [show ((slotM s).view.emb x : S3x8x512x1024.Idx) = _ from slotM_emb s x]
  exact mem_blkG.mpr ⟨rfl, by show a ≤ (x 0).val; omega, by show (x 0).val < b; omega⟩

theorem own_sub (j : Fin 8) (a b : ℕ) (h : a ≤ j.val) (h' : j.val < b) :
    (wM.view.setOn (wR j).toLoadRect.set : Finset S8x512x1024.Idx) ⊆ blkO a b := by
  intro i hi
  obtain ⟨x, hx, rfl⟩ := Finset.mem_map.mp hi
  rw [Rect.mem_set_unit] at hx
  have h0 : j.val ≤ (x 0).val ∧ (x 0).val < j.val + 1 := hx 0
  exact mem_blkO.mpr ⟨by show a ≤ (x 0).val; omega, by show (x 0).val < b; omega⟩

/-- A store of the `k`-th rows of the result. -/
theorem st_out (w : FVec F S512x1024 .bf16) {hx : (oM.access (oR k)).Stores Finset.univ}
    {hm : (Finset.univ : Finset (oR k).shape.Idx) = Finset.univ
      ∨ ∀ a, (oR k).stride a = 1}
    {α : Type} {kk : PUnit → ProgT F α} {Q : α → sProp 𝕄} :
    whole (F := F) c cc0_stg4_0 o ⊢ iprop((whole (F := F) c cc0_stg4_0 (stRow k o w) -∗ WP c (kk ⟨⟩) Q)
      -∗ WP c (.op (.store oM (oR k) w Finset.univ hx hm) kk) Q) := by
  unfold stRow
  exact wp_store 𝒱₀ (c : Thread nD τ) none Set.univ (defs := defs₀ (F := F)) (m := oM) (r := oR k) (w := w) (Mk := Finset.univ) (hx := hx) (hm := hm)
    (k := kk) (Q := Q) (S := Finset.univ) (f := o) (Finset.subset_univ _)

/-- The rows a trip reads: tokens, expert numbers, probabilities. -/
abbrev rowsIn : sProp 𝕄 := iprop(whole (F := F) c cc0_stg0_0 xf ∗ whole (F := F) c cc0_stg2_0 jf ∗ whole (F := F) c cc0_scratch3 pf)

theorem trip4_wp (s : Fin 3) (v : BitVec 32) (a b : Fin 4) (g : FVec F S3x8x512x1024 .bf16) (q1 q2 : PosShare TreeShare)
    {Q : Unit → sProp 𝕄} :
    iprop((rowsIn c xf jf pf ∗ gatPts c q1 s.val (2 * a.val) (2 * a.val + 2) g ∗ gatPts c q2 s.val (2 * b.val) (2 * b.val + 2) g)
        ∗ whole (F := F) c cc0_stg4_0 o
        ∗ (((rowsIn c xf jf pf ∗ gatPts c q1 s.val (2 * a.val) (2 * a.val + 2) g ∗ gatPts c q2 s.val (2 * b.val) (2 * b.val + 2) g)
            ∗ whole (F := F) c cc0_stg4_0 (stRow k o (step4 v (fun i => BitVec.ofNat 32 (quad a b i).val) (rdX k xf) (rdI k jf) (rdP k pf)
                ![rdG s (quad a b 0) g, rdG s (quad a b 1) g, rdG s (quad a b 2) g, rdG s (quad a b 3) g] (rdO k o)))) -∗ Q ⟨⟩))
      ⊢ WP c (trip4 (slotM s) v (quad a b) k) Q := by
  unfold trip4 gatPts
  simp only [Prog.lift, Prog.bind_op, Prog.bind_ret, Prog.pure_eq_ret]
  iintro ⟨⟨⟨Hx, Hi, Hp⟩, Ha, Hb⟩, Ho, Hk⟩
  iapply (wp_load 𝒱₀ (c : Thread nD τ) none Set.univ (m := xM) (f := xf) (q := fullShare) (Finset.subset_univ _)) $$ Hx
  iintro Hx
  iapply (wp_load 𝒱₀ (c : Thread nD τ) none Set.univ (m := iM) (f := jf) (q := fullShare) (Finset.subset_univ _)) $$ Hi
  iintro Hi
  iapply (wp_load 𝒱₀ (c : Thread nD τ) none Set.univ (m := pM) (f := pf) (q := fullShare) (Finset.subset_univ _)) $$ Hp
  iintro Hp
  iapply (wp_load 𝒱₀ (c : Thread nD τ) none Set.univ (m := oM) (f := o) (q := fullShare) (Finset.subset_univ _)) $$ Ho
  iintro Ho
  iapply (wp_load 𝒱₀ (c : Thread nD τ) none Set.univ (m := slotM s) (f := g) (q := q1) (slot_sub s (quad a b 0) (2 * a.val) (2 * a.val + 2) (Nat.le_refl _) (by show 2 * a.val < _; omega))) $$ Ha
  iintro Ha
  iapply (wp_load 𝒱₀ (c : Thread nD τ) none Set.univ (m := slotM s) (f := g) (q := q1) (slot_sub s (quad a b 1) (2 * a.val) (2 * a.val + 2) (by show _ ≤ 2 * a.val + 1; omega) (by show 2 * a.val + 1 < _; omega))) $$ Ha
  iintro Ha
  iapply (wp_load 𝒱₀ (c : Thread nD τ) none Set.univ (m := slotM s) (f := g) (q := q2) (slot_sub s (quad a b 2) (2 * b.val) (2 * b.val + 2) (Nat.le_refl _) (by show 2 * b.val < _; omega))) $$ Hb
  iintro Hb
  iapply (wp_load 𝒱₀ (c : Thread nD τ) none Set.univ (m := slotM s) (f := g) (q := q2) (slot_sub s (quad a b 3) (2 * b.val) (2 * b.val + 2) (by show _ ≤ 2 * b.val + 1; omega) (by show 2 * b.val + 1 < _; omega))) $$ Hb
  iintro Hb
  iapply (wp_load 𝒱₀ (c : Thread nD τ) none Set.univ (m := oM) (f := o) (q := fullShare) (Finset.subset_univ _)) $$ Ho
  iintro Ho
  iapply (st_out c k o _) $$ Ho
  iintro Ho
  iapply (ret_wp c)
  iapply Hk
  isplitr [Ho]
  · isplitl [Hx Hi Hp]
    · isplitl [Hx]; · iexact Hx
      isplitl [Hi]; · iexact Hi
      iexact Hp
    isplitl [Ha]; · iexact Ha
    iexact Hb
  iexact Ho

/-- A load of own expert `j`, held in a part of the buffer. -/
theorem ld_own (j : Fin 8) (q : PosShare TreeShare) (a b : ℕ) (h : a ≤ j.val) (h' : j.val < b) (g : FVec F S8x512x1024 .bf16)
    {hl : wM.view.LoadsAt (wR j).toLoadRect} {α : Type} {kk : Vec F S1x512x1024 .bf16 → ProgT F α} {Q : α → sProp 𝕄} :
    ownPts c q a b g ⊢ iprop((ownPts c q a b g -∗ WP c (kk (rdW j g)) Q) -∗ WP c (.op (.load wM (wR j).toLoadRect hl) kk) Q) := by
  exact wp_load 𝒱₀ (c : Thread nD τ) none Set.univ (defs := defs₀ (F := F)) (m := wM) (r := (wR j).toLoadRect) (hl := hl) (k := kk) (Q := Q)
    (S := blkO a b) (f := g) (q := q) (own_sub j a b h h')

theorem trip8_wp (v : BitVec 32) (g : FVec F S8x512x1024 .bf16) (q1 q2 : PosShare TreeShare) {Q : Unit → sProp 𝕄} :
    iprop((rowsIn c xf jf pf ∗ ownPts c q1 0 4 g ∗ ownPts c q2 4 8 g)
        ∗ whole (F := F) c cc0_stg4_0 o
        ∗ (((rowsIn c xf jf pf ∗ ownPts c q1 0 4 g ∗ ownPts c q2 4 8 g)
            ∗ whole (F := F) c cc0_stg4_0 (stRow k o (step8 v (rdX k xf) (rdI k jf) (rdP k pf)
                ![rdW 0 g, rdW 1 g, rdW 2 g, rdW 3 g, rdW 4 g, rdW 5 g, rdW 6 g, rdW 7 g] (rdO k o)))) -∗ Q ⟨⟩))
      ⊢ WP c (trip8 v k) Q := by
  unfold trip8
  simp only [Prog.lift, Prog.bind_op, Prog.bind_ret, Prog.pure_eq_ret]
  iintro ⟨⟨⟨Hx, Hi, Hp⟩, Ha, Hb⟩, Ho, Hk⟩
  iapply (wp_load 𝒱₀ (c : Thread nD τ) none Set.univ (m := xM) (f := xf) (q := fullShare) (Finset.subset_univ _)) $$ Hx
  iintro Hx
  iapply (wp_load 𝒱₀ (c : Thread nD τ) none Set.univ (m := iM) (f := jf) (q := fullShare) (Finset.subset_univ _)) $$ Hi
  iintro Hi
  iapply (wp_load 𝒱₀ (c : Thread nD τ) none Set.univ (m := pM) (f := pf) (q := fullShare) (Finset.subset_univ _)) $$ Hp
  iintro Hp
  iapply (wp_load 𝒱₀ (c : Thread nD τ) none Set.univ (m := oM) (f := o) (q := fullShare) (Finset.subset_univ _)) $$ Ho
  iintro Ho
  iapply (ld_own c 0 q1 0 4 (by decide) (by decide) g) $$ Ha
  iintro Ha
  iapply (ld_own c 1 q1 0 4 (by decide) (by decide) g) $$ Ha
  iintro Ha
  iapply (ld_own c 2 q1 0 4 (by decide) (by decide) g) $$ Ha
  iintro Ha
  iapply (ld_own c 3 q1 0 4 (by decide) (by decide) g) $$ Ha
  iintro Ha
  iapply (ld_own c 4 q2 4 8 (by decide) (by decide) g) $$ Hb
  iintro Hb
  iapply (ld_own c 5 q2 4 8 (by decide) (by decide) g) $$ Hb
  iintro Hb
  iapply (ld_own c 6 q2 4 8 (by decide) (by decide) g) $$ Hb
  iintro Hb
  iapply (ld_own c 7 q2 4 8 (by decide) (by decide) g) $$ Hb
  iintro Hb
  iapply (wp_load 𝒱₀ (c : Thread nD τ) none Set.univ (m := oM) (f := o) (q := fullShare) (Finset.subset_univ _)) $$ Ho
  iintro Ho
  iapply (st_out c k o _) $$ Ho
  iintro Ho
  iapply (ret_wp c)
  iapply Hk
  isplitr [Ho]
  · isplitl [Hx Hi Hp]
    · isplitl [Hx]; · iexact Hx
      isplitl [Hi]; · iexact Hi
      iexact Hp
    isplitl [Ha]; · iexact Ha
    iexact Hb
  iexact Ho

theorem trip1_wp (w : FVec F S512x1024 .bf16) {Q : Unit → sProp 𝕄} :
    iprop(whole (F := F) c cc0_stg0_0 xf ∗ whole (F := F) c cc0_stg4_0 o
        ∗ ((whole (F := F) c cc0_stg0_0 xf ∗ whole (F := F) c cc0_stg4_0 (stRow k o (k0_pay48 w (rdX k xf)))) -∗ Q ⟨⟩))
      ⊢ WP c (trip1 w k) Q := by
  unfold trip1
  simp only [Prog.lift, Prog.bind_op, Prog.bind_ret, Prog.pure_eq_ret]
  iintro ⟨Hx, Ho, Hk⟩
  iapply (wp_load 𝒱₀ (c : Thread nD τ) none Set.univ (m := xM) (f := xf) (q := fullShare) (Finset.subset_univ _)) $$ Hx
  iintro Hx
  iapply (wp_load 𝒱₀ (c : Thread nD τ) none Set.univ (m := oM) (f := o) (q := fullShare) (Finset.subset_univ _)) $$ Ho
  iintro Ho
  iapply (st_out c k o _) $$ Ho
  iintro Ho
  iapply (ret_wp c)
  iapply Hk
  isplitl [Hx]; · iexact Hx
  iexact Ho

/-- A loop of four trips, each replacing its rows of the result, at the head of a program. -/
theorem loop_wp (lp : Scf.Loop 32) (hok : lp.OK) (h4 : lp.trips = 4) (body : Fin lp.trips → Unit → ProgT F Unit) (R : sProp 𝕄)
    (f : Fin 4 → Vec F S512x1024 .bf16 → FVec F S512x1024 .bf16)
    (hbody : ∀ (k : Fin lp.trips) (o : FVec F S2048x1024 .bf16) (Q : Unit → sProp 𝕄),
      iprop(R ∗ whole (F := F) c cc0_stg4_0 o
          ∗ ((R ∗ whole (F := F) c cc0_stg4_0 (stRow (k.cast h4) o (f (k.cast h4) (rdO (k.cast h4) o)))) -∗ Q ⟨⟩)) ⊢ WP c (body k ⟨⟩) Q)
    {α : Type} {kk : Unit → ProgT F α} {Q : α → sProp 𝕄} :
    iprop(R ∗ whole (F := F) c cc0_stg4_0 o)
      ⊢ iprop(((R ∗ whole (F := F) c cc0_stg4_0 (rowsLoop f 4 o)) -∗ WP c (kk ⟨⟩) Q) -∗ WP c (Scf.Loop.for lp hok ⟨⟩ body >>= kk) Q) := by
  have h := Scf.wp_for_bind (M := 𝕄) frame (wpE (defs₀ (F := F)) 𝒱₀ (c : Thread nD τ) none) Set.univ lp.lb lp.ub lp.st hok (⟨⟩ : Unit) body
    (fun n _ => iprop(R ∗ whole (F := F) c cc0_stg4_0 (rowsLoop f n o)))
    (fun k _ => by
      have hk : k.val < 4 := h4 ▸ k.isLt
      have e : rowsLoop f (k.val + 1) o = stRow (k.cast h4) (rowsLoop f k.val o) (f (k.cast h4) (rdO (k.cast h4) (rowsLoop f k.val o))) := by
        rw [rowsLoop, dif_pos hk]; rfl
      iintro ⟨HR, Ho⟩
      iapply (hbody k (rowsLoop f k.val o) _)
      isplitl [HR]; · iexact HR
      isplitl [Ho]; · iexact Ho
      rw [e]
      iintro H; iexact H) (kk := kk) (Q := Q)
  have h' : iprop(R ∗ whole (F := F) c cc0_stg4_0 o) ⊢ iprop((∀ acc : Unit, iprop(R ∗ whole (F := F) c cc0_stg4_0 (rowsLoop f (Scf.trips lp.lb lp.ub lp.st) o)) -∗ WP c (kk acc) Q)
      -∗ WP c (Scf.for lp.lb lp.ub lp.st hok ⟨⟩ body >>= kk) Q) := h
  iintro H HK
  iapply h' $$ H
  iintro %acc H
  iapply HK
  rw [show Scf.trips lp.lb lp.ub lp.st = 4 from h4]
  iexact H

end Triples

end Cert.ExpertProof
-- ==== Proof.Sched.lean ====
/-
The schedule of the ring: which semaphore is raised by whom, by how much, and what a device gets by waiting on it.
-/
module

public import proofs.«01_k».proof.Proof.Trip

@[expose] public section

set_option maxRecDepth 16384

noncomputable section

namespace Cert.ExpertProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The cells -/

/-- The runtime's barrier semaphore. -/
abbrev barS : Sem sig := (SemArray.scalar (sig.barrier 0 rfl) : Sems sig S_).sem

set_option backward.proofsInPublic true in
/-- The seventeen semaphores of the ring: the barrier, eight of sends, eight of receives. -/
def csem (k : Fin 17) : SemLoc sig := if k = 0 then .reg barS else .dma (⟨4 + k.val, Nat.lt_of_lt_of_le (Nat.add_lt_add_left k.isLt 4) (by decide)⟩ : Fin 23)

set_option backward.proofsInPublic true in
/-- Which of them a semaphore is. -/
def sidx : SemLoc sig → Option (Fin 17)
  | .reg _ => some 0
  | .dma q => if h : 5 ≤ q.val ∧ q.val < 21 then some ⟨q.val - 4, by omega⟩ else none

theorem sidx_csem (k : Fin 17) : sidx (csem k) = some k := by revert k; decide
theorem csem_injective : Function.Injective csem := fun a b h => by
  have := congrArg sidx h; rw [sidx_csem, sidx_csem] at this; exact Option.some.inj this

/-- Semaphore `k` of device `c`. -/
abbrev kcell (c : Dev nD) (k : Fin 17) : GSem nD τ sig := ((c : Thread nD τ), csem k)

/-- The semaphore of copy `k`'s departure, -/
def snd (k : Fin 8) : Fin 17 := ⟨k.val + 1, by omega⟩
/-- and of its arrival. -/
def rcv (k : Fin 8) : Fin 17 := ⟨k.val + 9, by omega⟩

/-- Where copy `k` goes: to the next device, or to the one before. -/
def dstE (k : Fin 8) : Dev nD ≃ Dev nD := match k with
  | 0 | 2 | 6 | 7 => ring
  | 1 | 3 | 4 | 5 => ring.symm

/-- The credit of a copy of four experts, and of two. -/
def N4 : ℕ := (gatQ 0 0 (by decide)).view.dmaCredit
def N2 : ℕ := (gatP 2 0 (by decide)).view.dmaCredit
theorem N4_pos : 0 < N4 := View.dmaCredit_pos _ (by decide)
theorem N2_pos : 0 < N2 := View.dmaCredit_pos _ (by decide)

/-- How much copy `k` credits. -/
def cpy (k : Fin 8) : ℕ := if k.val < 4 then N4 else N2

/-- How much one duty of semaphore `k` is. -/
def amt (k : Fin 17) : ℕ := if k = 0 then 1 else if h : k.val < 9 then cpy ⟨k.val - 1, by omega⟩ else cpy ⟨k.val - 9, by omega⟩

theorem cpy_pos (k : Fin 8) : 0 < cpy k := by unfold cpy; split; exacts [N4_pos, N2_pos]
theorem amt_pos (k : Fin 17) : 0 < amt k := by unfold amt; split_ifs; exacts [Nat.one_pos, cpy_pos _, cpy_pos _]
theorem amt_snd (k : Fin 8) : amt (snd k) = cpy k := by fin_cases k <;> rfl
theorem amt_rcv (k : Fin 8) : amt (rcv k) = cpy k := by fin_cases k <;> rfl

/-! ## What the waits hand over -/

variable (m : (ℓ : Loc nD τ sig) → Buf (Elt F) ℓ)

/-- The four places of the next device's gather buffer that a device writes, -/
def nxtPieces (d : Dev nD) (f : FVec F S3x8x512x1024 .bf16) : sProp 𝕄 :=
  iprop(gatPts d fullShare 0 0 4 f ∗ gatPts d fullShare 0 4 8 f ∗ gatPts d fullShare 2 4 6 f ∗ gatPts d fullShare 2 6 8 f)
/-- and the four of the device before. -/
def prvPieces (d : Dev nD) (f : FVec F S3x8x512x1024 .bf16) : sProp 𝕄 :=
  iprop(gatPts d fullShare 1 0 4 f ∗ gatPts d fullShare 1 4 8 f ∗ gatPts d fullShare 2 0 2 f ∗ gatPts d fullShare 2 2 4 f)

/-- The signal of the next device (`false`) lets a device write there, that of the device before (`true`) there. -/
def barPay (c : Dev nD) (d : Bool) : sProp 𝕄 :=
  if d then iprop(∃ f, prvPieces (F := F) (prv c) f) else iprop(∃ f, nxtPieces (F := F) (nxt c) f)

/-- A departed copy's source comes back, -/
def sendPay (k : Fin 8) (c : Dev nD) : sProp 𝕄 := match k with
  | 0 => ownPts c fullShare.left 0 4 (ownB m c)
  | 1 => ownPts c fullShare.right 0 4 (ownB m c)
  | 2 => ownPts c fullShare.right.left 4 8 (ownB m c)
  | 3 => ownPts c fullShare.right.right 4 8 (ownB m c)
  | 4 => gatPts c fullShare 1 0 2 (gB m c)
  | 5 => gatPts c fullShare 1 2 4 (gB m c)
  | 6 => gatPts c fullShare.right 0 4 6 (gB m c)
  | 7 => gatPts c fullShare 0 6 8 (gB m c)

/-- and an arrived copy's target is the device's again. -/
def recvPay (k : Fin 8) (c : Dev nD) : sProp 𝕄 := match k with
  | 0 => gatPts c fullShare 0 0 4 (gB m c)
  | 1 => gatPts c fullShare 1 0 4 (gB m c)
  | 2 => gatPts c fullShare 0 4 8 (gB m c)
  | 3 => gatPts c fullShare 1 4 8 (gB m c)
  | 4 => gatPts c fullShare 2 0 2 (gB m c)
  | 5 => gatPts c fullShare 2 2 4 (gB m c)
  | 6 => gatPts c fullShare 2 4 6 (gB m c)
  | 7 => gatPts c fullShare 2 6 8 (gB m c)

/-- What a duty of semaphore `k` of device `c` hands over. -/
def pay (k : Fin 17) (c : Dev nD) (d : Bool) : sProp 𝕄 :=
  if k = 0 then barPay c d else if h : k.val < 9 then sendPay m ⟨k.val - 1, by omega⟩ c else recvPay m ⟨k.val - 9, by omega⟩ c

theorem pay_snd (k : Fin 8) (c : Dev nD) (d : Bool) : pay m (snd k) c d = sendPay m k c := by fin_cases k <;> rfl
theorem pay_rcv (k : Fin 8) (c : Dev nD) (d : Bool) : pay m (rcv k) c d = recvPay m k c := by fin_cases k <;> rfl

instance pay_storable (k : Fin 17) (c : Dev nD) (d : Bool) : BI.Storable (upEmb : UEmb _ 𝕄) (pay m k c d) := by
  unfold pay barPay nxtPieces prvPieces sendPay recvPay
  (repeat' split) <;> infer_instance

/-- Every semaphore has one round. The barrier is raised by both neighbours, any other by one copy. -/
def ringRd : Rounds.Schedule (GSem nD τ sig) Bool 𝕄 where
  duties g r := if r = 0 ∧ g.1.2 = .tc then (match sidx g.2 with | none => ∅ | some k => if k = 0 then Finset.univ else {false}) else ∅
  unitless _ := False
  amount g _ _ := match sidx g.2 with | none => 1 | some k => amt k
  payload g _ d := match sidx g.2 with | none => iprop(emp) | some k => pay m k g.1.1 d
  amount_pos g _ _ _ := by
    cases sidx g.2 with
    | none => exact Nat.one_pos
    | some k => exact amt_pos k

instance ringRd_payload_storable (g : GSem nD τ sig) (r : ℕ) (d : Bool) :
    BI.Storable (upEmb : UEmb _ 𝕄) ((ringRd (F := F) m).payload g r d) := by
  show BI.Storable upEmb (match sidx g.2 with | none => iprop(emp) | some k => pay m k g.1.1 d)
  split <;> infer_instance

section Cells
variable (c : Dev nD) (k : Fin 17)

theorem duties_bar : (ringRd (F := F) m).duties (kcell c 0) 0 = Finset.univ := by
  dsimp only [ringRd]; rw [if_pos ⟨rfl, rfl⟩, sidx_csem]; rfl
theorem duties_copy (hk : k ≠ 0) : (ringRd (F := F) m).duties (kcell c k) 0 = {false} := by
  dsimp only [ringRd]; rw [if_pos ⟨rfl, rfl⟩, sidx_csem]; exact if_neg hk
theorem duties_later (g : GSem nD τ sig) : ∀ r, 1 ≤ r → (ringRd (F := F) m).duties g r = ∅ :=
  fun r hr => by dsimp only [ringRd]; exact if_neg fun h => by omega
theorem amount_cell (d : Bool) : (ringRd (F := F) m).amount (kcell c k) 0 d = amt k := by
  dsimp only [ringRd]; rw [sidx_csem]
theorem payload_cell (d : Bool) : (ringRd (F := F) m).payload (kcell c k) 0 d = pay m k c d := by
  dsimp only [ringRd]; rw [sidx_csem]
theorem expect_bar : (ringRd (F := F) m).expect (kcell c 0) 0 = 2 := by
  unfold Schedule.expect Schedule.amountOf
  rw [duties_bar, Finset.sum_congr rfl fun d _ => amount_cell m c 0 d, Finset.sum_const, Finset.card_univ, Fintype.card_bool]; rfl
theorem expect_copy (hk : k ≠ 0) : (ringRd (F := F) m).expect (kcell c k) 0 = amt k := by
  unfold Schedule.expect Schedule.amountOf; rw [duties_copy m c k hk, Finset.sum_singleton, amount_cell]

/-- What waiting on the barrier hands over, -/
theorem rest_bar : bigSep ((ringRd (F := F) m).duties (kcell c 0) 0 \ ∅) (fun d => (ringRd (F := F) m).payload (kcell c 0) 0 d)
    = iprop((∃ f, nxtPieces (F := F) (nxt c) f) ∗ ∃ f, prvPieces (F := F) (prv c) f) := by
  rw [Finset.sdiff_empty, duties_bar, bigSep_univ_eq_bigSepL [false, true] (by decide) (by decide), bigSepL_cons_cons, bigSepL_singleton,
    payload_cell, payload_cell]
  rfl
/-- and on another semaphore. -/
theorem rest_copy (hk : k ≠ 0) : bigSep ((ringRd (F := F) m).duties (kcell c k) 0 \ ∅) (fun d => (ringRd (F := F) m).payload (kcell c k) 0 d)
    = pay m k c false := by
  rw [Finset.sdiff_empty, duties_copy m c k hk, bigSep_singleton, payload_cell]

end Cells

/-! ## What a device owes, and the levels that order the waits -/

/-- The arrivals a device still owes: the copies `l`. -/
def owesR (c : Dev nD) : List (Fin 8) → CellTallies nD τ sig Unit
  | [] => 0
  | k :: l => owesR c l + tallyAt (kcell (dstE k c) (rcv k)) () (cpy k)

/-- The copies in the order they are sent. -/
def sent : List (Fin 8) := [0, 1, 2, 3, 4, 6, 5, 7]

/-- What a device owes once it has signalled the device before, -/
def O₁ (c : Dev nD) : CellTallies nD τ sig Unit := owesR c sent + tallyAt (kcell (nxt c) 0) () 1
/-- and from the start. -/
def O₀ (c : Dev nD) : CellTallies nD τ sig Unit := O₁ c + tallyAt (kcell (prv c) 0) () 1

def L (g : GSem nD τ sig) : Finset Unit := if g.1.2 = .tc then {()} else ∅
/-- The barrier at 1, the arrivals of the device's own experts at 2, those of forwarded experts at 3, all else at 0. -/
def lvk (k : Fin 17) : ℕ := if k.val = 0 then 1 else if k.val < 9 then 0 else if k.val < 13 then 2 else 3
def lv (g : GSem nD τ sig) (_ : Unit) : ℕ := match sidx g.2 with | none => 0 | some k => lvk k

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (k : Fin 17) : lv (kcell c k) () = lvk k := by unfold lv; rw [sidx_csem]

/-- What is owed is owed to the ring's cells. -/
theorem owesR_pos {c : Dev nD} {l : List (Fin 8)} {g : GSem nD τ sig} {u : Unit} (h : 0 < owesR c l g u) :
    ∃ k ∈ l, g = kcell (dstE k c) (rcv k) := by
  induction l with
  | nil => exact absurd h (Nat.lt_irrefl 0)
  | cons k l ih =>
    unfold owesR at h
    rw [Pi.add_apply, Finsupp.add_apply, tallyAt_apply] at h
    by_cases e : g = kcell (dstE k c) (rcv k) ∧ u = ()
    · exact ⟨k, List.mem_cons_self, e.1⟩
    · rw [if_neg e, Nat.add_zero] at h
      obtain ⟨k', hk', e'⟩ := ih h
      exact ⟨k', List.mem_cons_of_mem _ hk', e'⟩

theorem O₀_pos {c : Dev nD} {g : GSem nD τ sig} {u : Unit} (h : 0 < O₀ c g u) :
    ∃ d k, g = kcell d k ∧ 0 < lvk k := by
  unfold O₀ O₁ at h
  rw [Pi.add_apply, Finsupp.add_apply, Pi.add_apply, Finsupp.add_apply, tallyAt_apply, tallyAt_apply] at h
  by_cases e1 : g = kcell (prv c) 0 ∧ u = ()
  · exact ⟨_, 0, e1.1, by decide⟩
  by_cases e2 : g = kcell (nxt c) 0 ∧ u = ()
  · exact ⟨_, 0, e2.1, by decide⟩
  rw [if_neg e1, if_neg e2] at h
  have h' : 0 < owesR c sent g u := h
  obtain ⟨k, -, e⟩ := owesR_pos h'
  exact ⟨_, _, e, by clear e; revert k; decide⟩

/-- A device may wait below all it owes. -/
theorem mayWait_of (c : Dev nD) (s : SemLoc sig) (O : CellTallies nD τ sig Unit) (b : ℕ)
    (hs : lv ((c : Thread nD τ), s) () ≤ b) (hO : ∀ g u, 0 < O g u → ∃ d k, g = kcell d k ∧ b < lvk k) :
    (levAts L lv : sProp 𝕄) ⊢ MayWait (c : Thread nD τ) s () O :=
  MayOwe.of_cut (L := L) (lev := lv) b (fun p hp => by rw [Finset.mem_singleton.mp hp, L_tc]; exact Finset.mem_singleton_self _)
    (fun g u hg => by obtain ⟨d, k, rfl, -⟩ := hO g u hg; exact Finset.mem_singleton_self _)
    (fun p hp => by rw [Finset.mem_singleton.mp hp]; exact hs)
    (fun g u hg => by obtain ⟨d, k, rfl, hk⟩ := hO g u hg; rw [lv_cell]; exact hk)

/-- From the start it may wait on a semaphore of its own or of the staging. -/
theorem mayWait_start (c : Dev nD) (s : SemLoc sig) (hs : lv ((c : Thread nD τ), s) () ≤ 0) :
    (levAts L lv : sProp 𝕄) ⊢ MayWait (c : Thread nD τ) s () (O₀ c) :=
  mayWait_of c s _ 0 hs fun g u h => O₀_pos h

/-- Owing the copies `l` it may wait below the levels of their arrivals. -/
theorem mayWait_copies (c : Dev nD) (s : SemLoc sig) (l : List (Fin 8)) (b : ℕ) (hs : lv ((c : Thread nD τ), s) () ≤ b)
    (hl : ∀ k ∈ l, b < lvk (rcv k)) : (levAts L lv : sProp 𝕄) ⊢ MayWait (c : Thread nD τ) s () (owesR c l) :=
  mayWait_of c s _ b hs fun g u h => by obtain ⟨k, hk, e⟩ := owesR_pos h; exact ⟨_, _, e, hl k hk⟩

end Cert.ExpertProof
-- ==== Proof.Ops.lean ====
/-
The kernel's steps on the ring's semaphores, and its loads of the experts.
-/
module

public import proofs.«01_k».proof.Proof.Sched

@[expose] public section

set_option maxRecDepth 16384

noncomputable section

namespace Cert.ExpertProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The invariants of all the ring's cells, at the names `K` -/

def records (K : Dev nD × Fin 17 → ℕ) : sProp 𝕄 :=
  iprop((bigSep Finset.univ fun ck : Dev nD × Fin 17 => cellInv ER (ringRd m) (K ck) (kcell ck.1 ck.2))
    ∗ bigSep Finset.univ fun ck : Dev nD × Fin 17 => reached ER (kcell ck.1 ck.2) 0)

instance records_persistent (K : Dev nD × Fin 17 → ℕ) : BI.Persistent (records m K) := by unfold records; infer_instance

theorem inv_at (K : Dev nD × Fin 17 → ℕ) (c : Dev nD) (k : Fin 17) :
    records m K ⊢ cellInv ER (ringRd m) (K (c, k)) (kcell c k) := by
  have h : (bigSep Finset.univ fun ck : Dev nD × Fin 17 => (cellInv ER (ringRd m) (K ck) (kcell ck.1 ck.2) : sProp 𝕄))
      ⊢ cellInv ER (ringRd m) (K (c, k)) (kcell c k) := bigSep_elim (Finset.mem_univ (c, k))
  unfold records; iintro ⟨#H, -⟩
  iapply h; iexact H
theorem reached_at (K : Dev nD × Fin 17 → ℕ) (c : Dev nD) (k : Fin 17) : records m K ⊢ reached ER (kcell c k) 0 := by
  have h : (bigSep Finset.univ fun ck : Dev nD × Fin 17 => (reached ER (kcell ck.1 ck.2) 0 : sProp 𝕄))
      ⊢ reached ER (kcell c k) 0 := bigSep_elim (Finset.mem_univ (c, k))
  unfold records; iintro ⟨-, #H⟩
  iapply h; iexact H

theorem snd_ne (k : Fin 8) : snd k ≠ 0 := by revert k; decide
theorem rcv_ne (k : Fin 8) : rcv k ≠ 0 := by revert k; decide

/-- What a device owes, whatever it has waited on. -/
def owing (c : Dev nD) (O : CellTallies nD τ sig Unit) : sProp 𝕄 := iprop(∃ W, owes (c : Thread nD τ) O W)

section Steps

variable (K : Dev nD × Fin 17 → ℕ) (c : Dev nD) {α : Type}

/-! ## Copies to the neighbours -/

/-- A copy departs: its source and its target are handed over, its arrival no longer owed. -/
theorem send_wp (k : Fin 8) (n : Dev nD) (hn : n = dstE k c) {s : Shape}
    (src dst : Memref sig .tc .vmem s .bf16) (sS sR : DmaSem sig) (hS : SemLoc.dma sS = csem (snd k)) (hR : SemLoc.dma sR = csem (rcv k))
    (hN : dst.view.dmaCredit = cpy k) (q : PosShare TreeShare) (fs : Buf (Elt F) (src.view.loc (c : Thread nD τ)))
    (fd : Buf (Elt F) (dst.view.loc (dstE k c : Thread nD τ))) (l : List (Fin 8))
    (hp : (src.view.loc (c : Thread nD τ) ↦[src.view.set]{q} fs) ⊢ sendPay m k c)
    (hp' : (dst.view.loc (dstE k c : Thread nD τ) ↦[dst.view.set]{fullShare} (dst.view.write (Elt F) fd (src.view.read (Elt F) fs) Finset.univ))
      ⊢ recvPay m k (dstE k c))
    {hsc : dst.view.ref.isScScratch = false} {hsrc : src.view.WordExact} {hdst : dst.view.WordExact}
    {hsem : DmaTarget.Typed .vmem (.dma sR) (.remote (Dev.tc n : Thread nD τ) dst (.dma sS) hsc)} {kk : PUnit → ProgT F α} {Q : α → sProp 𝕄} :
    iprop(records m K ∗ (src.view.loc (c : Thread nD τ) ↦[src.view.set]{q} fs) ∗ (dst.view.loc (dstE k c : Thread nD τ) ↦[dst.view.set]{fullShare} fd)
        ∗ owing c (owesR c (k :: l)) ∗ dutyTok ER (kcell c (snd k)) 0 false ∗ dutyTok ER (kcell (dstE k c) (rcv k)) 0 false)
      ⊢ iprop(((cred (tallyAt (kcell c (snd k)) () (cpy k)) ∗ owing c (owesR c l)) -∗ WP c (kk ⟨⟩) Q)
          -∗ WP c (.op (.enqueueDma src (.remote (Dev.tc n : Thread nD τ) dst (.dma sS) hsc) (.dma sR) hsrc hdst hsem) kk) Q) := by
  subst hn
  have e : owesR c (k :: l) = owesR c l + tallyAt (kcell (dstE k c) (rcv k)) () (cpy k) := rfl
  rw [e]
  unfold kcell owing
  rw [← hS, ← hR]
  iintro ⟨#HR, Hs, Hd, ⟨%W, HO⟩, Ht, Ht'⟩ Hk
  have h1 := inv_at m K c (snd k)
  have h2 := inv_at m K (dstE k c) (rcv k)
  have h3 := reached_at m K c (snd k)
  have h4 := reached_at m K (dstE k c) (rcv k)
  have hd1 := duties_copy m c (snd k) (snd_ne k)
  have hd2 := duties_copy m (dstE k c) (rcv k) (rcv_ne k)
  have ha1 := amount_cell m c (snd k) false
  have ha2 := amount_cell m (dstE k c) (rcv k) false
  have hy1 := payload_cell m c (snd k) false
  have hy2 := payload_cell m (dstE k c) (rcv k) false
  rw [amt_snd] at ha1
  rw [amt_rcv] at ha2
  rw [pay_snd] at hy1
  rw [pay_rcv] at hy2
  unfold kcell at h1 h2 h3 h4 hd1 hd2 ha1 ha2 hy1 hy2
  rw [← hS] at h1 h3 hd1 ha1 hy1
  rw [← hR] at h2 h4 hd2 ha2 hy2
  have hm1 := hd1.symm ▸ Finset.mem_singleton_self false
  have hm2 := hd2.symm ▸ Finset.mem_singleton_self false
  have hq1 := hp.trans (Entails.of_eq hy1.symm)
  have hq2 := hp'.trans (Entails.of_eq hy2.symm)
  have hN' : dst.view.amount (SemLoc.dma sR) = cpy k := hN
  have hr : τ.routes (c : Thread nD τ) (dstE k c : Thread nD τ) = true := by routes
  have h := Rounds.wp_send_pointsTo (defs := defs₀ (F := F)) (Γ := []) (Q := Q) (k := kk) (Es := Set.univ) (hsc := hsc) (hsrc := hsrc) (hdst := hdst) (hsem := hsem)
    𝒱₀ ER (ringRd m) (c : Thread nD τ) none (κ₁ := K (c, snd k)) (κ₂ := K (dstE k c, rcv k))
    (r₁ := 0) (r₂ := 0) (d₁ := false) (d₂ := false) (fs := fs) (fd := fd) hm1 hm2
    () () (cpy k) hN' ha1 ha2 (owesR c l) rfl (W := W) hq1 hq2 hr
  iapply h $$ [Hs Hd HO Ht Ht']
  · isplitr; · iapply h1; iexact HR
    isplitr; · iapply h2; iexact HR
    isplitl [Hs]; · iexact Hs
    isplitl [Hd]; · iexact Hd
    isplitl [HO]; · iexact HO
    isplitl [Ht]; · iexact Ht
    isplitr; · iapply h3; iexact HR
    isplitl [Ht']; · iexact Ht'
    iapply h4; iexact HR
  iintro ⟨Hc, HO⟩
  iapply Hk
  isplitl [Hc]; · iexact Hc
  iexists W; iexact HO

/-- A wait on one of the ring's semaphores that a copy raises: what the copy hands over, and the semaphore back at zero. -/
theorem wait_wp (k : Fin 17) (hk : k ≠ 0) (sm : DmaSem sig) (hS : SemLoc.dma sm = csem k) {s : Shape}
    (src dst : Memref sig .tc .vmem s .bf16) (hN : dst.view.dmaCredit = amt k) (O : CellTallies nD τ sig Unit)
    (hO : (levAts L lv : sProp 𝕄) ⊢ MayWait (c : Thread nD τ) (csem k) () O)
    {hsrc : src.view.WordExact} {hdst : dst.view.WordExact} {kk : PUnit → ProgT F α} {Q : α → sProp 𝕄} :
    iprop(records m K ∗ levAts L lv ∗ cred (tallyAt (kcell c k) () (amt k)) ∗ owing c O ∗ atPos ER (kcell c k) 0 ∅ 0)
      ⊢ iprop(((owing c O ∗ semVal (kcell c k) 0 ∗ pay m k c false) -∗ WP c (kk ⟨⟩) Q)
          -∗ WP c (.op (.waitDma2 sm src dst hsrc hdst) kk) Q) := by
  unfold owing
  iintro ⟨#HR, #HL, Hc, ⟨%W, HO⟩, Hat⟩ Hk
  have h1 := inv_at m K c k
  have hx := expect_copy m c k hk
  have hr := rest_copy m c k hk
  unfold kcell at h1 hx hr ⊢
  rw [← hS] at h1 hx hr hO ⊢
  have hN' : 0 + dst.view.dmaCredit = (ringRd m).expect ((c : Thread nD τ), SemLoc.dma sm) 0 := by rw [Nat.zero_add, hx]; exact hN
  have h := Rounds.wp_wait_rest_token (defs := defs₀ (F := F)) (Γ := []) (Q := Q) (k := kk) (Es := Set.univ)
      𝒱₀ ER (ringRd m) (c : Thread nD τ) none (κ := K (c, k))
      (wpE_waitDma2_eq 𝒱₀ (c : Thread nD τ) none Set.univ (hsrc := hsrc) (hdst := hdst)) (Set.mem_univ _) () (O := O) (W := W) (R := 0) (m := 0) (T := ∅) hN'
  iapply h $$ [Hc HO Hat]
  · isplitr; · iapply h1; iexact HR
    isplitl [Hc]; · rw [hN]; iexact Hc
    isplitl [HO]; · iexact HO
    isplitr; · iapply hO; iexact HL
    iexact Hat
  iintro ⟨HO, Hat, -, Hpay⟩
  ihave Hp := (Entails.of_eq hr) $$ Hpay
  imod (Rounds.cell_close ER (ringRd m) (Set.mem_univ (K (c, k))) (fun h => h) (R := 0 + 1) (duties_later m _)) $$ [Hat] with Hz
  · isplitr; · iapply h1; iexact HR
    iexact Hat
  iapply Hk
  isplitl [HO]; · iexists _; iexact HO
  isplitl [Hz]; · iexact Hz
  iexact Hp

/-- A signal to a neighbour's barrier hands over what the neighbour's wait is to get. -/
theorem signal_wp (d : Dev nD) (b : Bool) (O : CellTallies nD τ sig Unit) {kk : PUnit → ProgT F α} {Q : α → sProp 𝕄} :
    iprop(records m K ∗ owing c (O + tallyAt (kcell d 0) () 1) ∗ dutyTok ER (kcell d 0) 0 b ∗ barPay d b)
      ⊢ iprop((owing c O -∗ WP c (kk ⟨⟩) Q) -∗ WP c (.op (.semSignal (d : Thread nD τ) barS 1) kk) Q) := by
  unfold owing
  iintro ⟨#HR, ⟨%W, HO⟩, Ht, Hp⟩ Hk
  have hd : b ∈ (ringRd m).duties ((d : Thread nD τ), SemLoc.reg barS) 0 := by
    rw [show ((d : Thread nD τ), SemLoc.reg barS) = kcell d 0 from rfl, duties_bar m d]; exact Finset.mem_univ _
  have hr : τ.routes (c : Thread nD τ) (d : Thread nD τ) = true := by routes
  have h := Rounds.wp_signal (defs := defs₀ (F := F)) (Γ := []) (Q := Q) (k := kk) (Es := Set.univ)
    𝒱₀ ER (ringRd m) (c : Thread nD τ) none (dst := (d : Thread nD τ)) (sem := barS) (κ := K (d, 0)) (d := b) (r := 0) (k' := 1)
    hd (amount_cell m d 0 b) () O rfl (W := W) hr
  iapply h $$ [HO Ht Hp]
  · isplitr; · iapply (inv_at m K d 0); iexact HR
    isplitl [HO]; · iexact HO
    isplitl [Ht]; · iexact Ht
    isplitl [Hp]
    · iapply (show barPay (F := F) d b ⊢ (ringRd m).payload ((d : Thread nD τ), SemLoc.reg barS) 0 b from Entails.of_eq (payload_cell m d 0 b).symm)
      iexact Hp
    iapply (reached_at m K d 0); iexact HR
  iintro HO
  iapply Hk
  iexists W; iexact HO

/-- The barrier's wait, for both neighbours. -/
theorem barrier_wp (O : CellTallies nD τ sig Unit)
    (hO : (levAts L lv : sProp 𝕄) ⊢ MayWait (c : Thread nD τ) (csem 0) () O) {kk : PUnit → ProgT F α} {Q : α → sProp 𝕄} :
    iprop(records m K ∗ levAts L lv ∗ cred (tallyAt (kcell c 0) () 2) ∗ owing c O ∗ atPos ER (kcell c 0) 0 ∅ 0)
      ⊢ iprop(((owing c O ∗ semVal (kcell c 0) 0 ∗ (∃ f, nxtPieces (F := F) (nxt c) f) ∗ (∃ f, prvPieces (F := F) (prv c) f)) -∗ WP c (kk ⟨⟩) Q)
          -∗ WP c (.op (.semWait barS 2) kk) Q) := by
  unfold owing
  iintro ⟨#HR, #HL, Hc, ⟨%W, HO⟩, Hat⟩ Hk
  have hx : 0 + 2 = (ringRd m).expect ((c : Thread nD τ), csem 0) 0 := (expect_bar m c).symm
  have h := Rounds.wp_wait_rest_token (defs := defs₀ (F := F)) (Γ := []) (Q := Q) (k := kk) (Es := Set.univ)
      𝒱₀ ER (ringRd m) (c : Thread nD τ) none (κ := K (c, 0)) (sm := csem 0)
      (wpE_semWait_eq 𝒱₀ (c : Thread nD τ) none Set.univ) (Set.mem_univ _) () (O := O) (W := W) (R := 0) (m := 0) (T := ∅) hx
  iapply h $$ [Hc HO Hat]
  · isplitr; · iapply (inv_at m K c 0); iexact HR
    isplitl [Hc]; · iexact Hc
    isplitl [HO]; · iexact HO
    isplitr; · iapply hO; iexact HL
    iexact Hat
  iintro ⟨HO, Hat, -, Hpay⟩
  ihave Hp := (Entails.of_eq (rest_bar m c)) $$ Hpay
  imod (Rounds.cell_close ER (ringRd m) (Set.mem_univ (K (c, 0))) (fun h => h) (R := 0 + 1) (duties_later m _)) $$ [Hat] with Hz
  · isplitr; · iapply (inv_at m K c 0); iexact HR
    iexact Hat
  iapply Hk
  isplitl [HO]; · iexists _; iexact HO
  isplitl [Hz]; · iexact Hz
  iexact Hp

end Steps

end Cert.ExpertProof
-- ==== Proof.Moves.lean ====
/-
The copies, waits and loads of the kernel, each as one step.
-/
module

public import proofs.«01_k».proof.Proof.Ops

@[expose] public section

set_option maxRecDepth 16384

noncomputable section

namespace Cert.ExpertProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (m : (ℓ : Loc nD τ sig) → Buf (Elt F) ℓ)

/-! ## The amounts and the semaphores -/

/-- The semaphore of copy `k`'s departure, -/
def sndS (k : Fin 8) : DmaSem sig := (⟨5 + k.val, by have := k.isLt; show _ < 23; omega⟩ : Fin 23)
/-- and of its arrival. -/
def rcvS (k : Fin 8) : DmaSem sig := (⟨13 + k.val, by have := k.isLt; show _ < 23; omega⟩ : Fin 23)
theorem sndS_eq (k : Fin 8) : SemLoc.dma (sndS k) = csem (snd k) := by revert k; decide
theorem rcvS_eq (k : Fin 8) : SemLoc.dma (rcvS k) = csem (rcv k) := by revert k; decide

theorem credit_ownQ (a : ℕ) (h : a + 4 ≤ 8) : (ownQ a h).view.dmaCredit = N4 := rfl
theorem credit_gatQ (s a : ℕ) (h : s < 3 ∧ a + 4 ≤ 8) : (gatQ s a h).view.dmaCredit = N4 := rfl
theorem credit_gatP (s a : ℕ) (h : s < 3 ∧ a + 2 ≤ 8) : (gatP s a h).view.dmaCredit = N2 := rfl

/-- What sending copy `k` uses up, -/
def preP (c : Dev nD) (k : Fin 8) : sProp 𝕄 :=
  iprop(dutyTok ER (kcell c (snd k)) 0 false ∗ dutyTok ER (kcell (dstE k c) (rcv k)) 0 false ∗ atPos ER (kcell c (snd k)) 0 ∅ 0)
/-- what the wait for its departure uses up, -/
def outP (c : Dev nD) (k : Fin 8) : sProp 𝕄 := iprop(cred (tallyAt (kcell c (snd k)) () (cpy k)) ∗ atPos ER (kcell c (snd k)) 0 ∅ 0)
/-- and what the wait for an arrival uses up. -/
def inP (c : Dev nD) (k : Fin 8) : sProp 𝕄 := iprop(cred (tallyAt (kcell c (rcv k)) () (cpy k)) ∗ atPos ER (kcell c (rcv k)) 0 ∅ 0)

section Steps

variable (K : Dev nD × Fin 17 → ℕ) (c : Dev nD) {α : Type}

/-! ## Copies -/

/-- Four own experts leave for a neighbour. -/
theorem sendQ_wp (k : Fin 8) (hk : cpy k = N4) {n : Dev nD} (hn : n = dstE k c) (s a : ℕ) (h : s < 3 ∧ a + 4 ≤ 8) (h' : a + 4 ≤ 8)
    (hd : srcDev (dstE k c) ⟨s, h.1⟩ = c) (q : PosShare TreeShare) (hp : sendPay m k c = ownPts c q a (a + 4) (ownB m c))
    (hp' : recvPay m k (dstE k c) = gatPts (dstE k c) fullShare s a (a + 4) (gB m (dstE k c)))
    (fd : FVec F S3x8x512x1024 .bf16) (l : List (Fin 8))
    {hsc : (gatQ s a h).view.ref.isScScratch = false} {hsrc : (ownQ a h').view.WordExact} {hdst : (gatQ s a h).view.WordExact}
    {hsem : DmaTarget.Typed .vmem (.dma (rcvS k)) (.remote (Dev.tc n : Thread nD τ) (gatQ s a h) (.dma (sndS k)) hsc)}
    {kk : PUnit → ProgT F α} {Q : α → sProp 𝕄} :
    records m K ⊢ iprop(ownPts c q a (a + 4) (ownB m c) -∗ gatPts (dstE k c) fullShare s a (a + 4) fd -∗ owing c (owesR c (k :: l))
      -∗ preP c k -∗ ((outP c k ∗ owing c (owesR c l)) -∗ WP c (kk ⟨⟩) Q)
      -∗ WP c (.op (.enqueueDma (ownQ a h') (.remote (Dev.tc n : Thread nD τ) (gatQ s a h) (.dma (sndS k)) hsc) (.dma (rcvS k)) hsrc hdst hsem) kk) Q) := by
  have hs : ((ownQ a h').view.loc (c : Thread nD τ) ↦[(ownQ a h').view.set]{q} (ownB m c)) ⊢ sendPay m k c := by
    rw [hp, ownPts, ← ownQ_set a h']
  have hr : ((gatQ s a h).view.loc (dstE k c : Thread nD τ) ↦[(gatQ s a h).view.set]{fullShare}
      ((gatQ s a h).view.write (Elt F) fd ((ownQ a h').view.read (Elt F) (ownB m c)) Finset.univ)) ⊢ recvPay m k (dstE k c) := by
    rw [hp', gatPts, ← gatQ_set s a h]
    exact Entails.of_eq (pointsTo_congr fun i hi => landQ m c (dstE k c) s a h h' hd fd i (by rw [← gatQ_set s a h]; exact hi))
  have H := send_wp m K c k n hn (ownQ a h') (gatQ s a h) (sndS k) (rcvS k) (sndS_eq k) (rcvS_eq k) ((credit_gatQ s a h).trans hk.symm) q (ownB m c) fd l hs hr
    (hsc := hsc) (hsrc := hsrc) (hdst := hdst) (hsem := hsem) (kk := kk) (Q := Q)
  unfold preP outP
  iintro #HR Ho Hg HO ⟨Ht, Ht', Hat⟩ Hk
  iapply H $$ [Ho Hg HO Ht Ht']
  · isplitr; · iexact HR
    isplitl [Ho]
    · unfold ownPts; rw [← ownQ_set a h']; iexact Ho
    isplitl [Hg]
    · unfold gatPts; rw [← gatQ_set s a h]; iexact Hg
    isplitl [HO]; · iexact HO
    isplitl [Ht]; · iexact Ht
    iexact Ht'
  iintro ⟨Hc, HO⟩
  iapply Hk
  isplitr [HO]
  · isplitl [Hc]; · iexact Hc
    iexact Hat
  iexact HO

/-- Two gathered experts leave for a neighbour. -/
theorem sendP_wp (k : Fin 8) (hk : cpy k = N2) {n : Dev nD} (hn : n = dstE k c) (s a : ℕ) (h : s < 3 ∧ a + 2 ≤ 8) (h' : 2 < 3 ∧ a + 2 ≤ 8)
    (hd : srcDev (dstE k c) 2 = srcDev c ⟨s, h.1⟩) (q : PosShare TreeShare) (hp : sendPay m k c = gatPts c q s a (a + 2) (gB m c))
    (hp' : recvPay m k (dstE k c) = gatPts (dstE k c) fullShare 2 a (a + 2) (gB m (dstE k c)))
    (fd : FVec F S3x8x512x1024 .bf16) (l : List (Fin 8))
    {hsc : (gatP 2 a h').view.ref.isScScratch = false} {hsrc : (gatP s a h).view.WordExact} {hdst : (gatP 2 a h').view.WordExact}
    {hsem : DmaTarget.Typed .vmem (.dma (rcvS k)) (.remote (Dev.tc n : Thread nD τ) (gatP 2 a h') (.dma (sndS k)) hsc)}
    {kk : PUnit → ProgT F α} {Q : α → sProp 𝕄} :
    records m K ⊢ iprop(gatPts c q s a (a + 2) (gB m c) -∗ gatPts (dstE k c) fullShare 2 a (a + 2) fd -∗ owing c (owesR c (k :: l))
      -∗ preP c k -∗ ((outP c k ∗ owing c (owesR c l)) -∗ WP c (kk ⟨⟩) Q)
      -∗ WP c (.op (.enqueueDma (gatP s a h) (.remote (Dev.tc n : Thread nD τ) (gatP 2 a h') (.dma (sndS k)) hsc) (.dma (rcvS k)) hsrc hdst hsem) kk) Q) := by
  have hs : ((gatP s a h).view.loc (c : Thread nD τ) ↦[(gatP s a h).view.set]{q} (gB m c)) ⊢ sendPay m k c := by
    rw [hp, gatPts, ← gatP_set s a h]
  have hr : ((gatP 2 a h').view.loc (dstE k c : Thread nD τ) ↦[(gatP 2 a h').view.set]{fullShare}
      ((gatP 2 a h').view.write (Elt F) fd ((gatP s a h).view.read (Elt F) (gB m c)) Finset.univ)) ⊢ recvPay m k (dstE k c) := by
    rw [hp', gatPts, ← gatP_set 2 a h']
    exact Entails.of_eq (pointsTo_congr fun i hi => landP m c (dstE k c) s a h h' hd fd i (by rw [← gatP_set 2 a h']; exact hi))
  have H := send_wp m K c k n hn (gatP s a h) (gatP 2 a h') (sndS k) (rcvS k) (sndS_eq k) (rcvS_eq k) ((credit_gatP 2 a h').trans hk.symm) q (gB m c) fd l hs hr
    (hsc := hsc) (hsrc := hsrc) (hdst := hdst) (hsem := hsem) (kk := kk) (Q := Q)
  unfold preP outP
  iintro #HR Ho Hg HO ⟨Ht, Ht', Hat⟩ Hk
  iapply H $$ [Ho Hg HO Ht Ht']
  · isplitr; · iexact HR
    isplitl [Ho]
    · unfold gatPts; rw [← gatP_set s a h]; iexact Ho
    isplitl [Hg]
    · unfold gatPts; rw [← gatP_set 2 a h']; iexact Hg
    isplitl [HO]; · iexact HO
    isplitl [Ht]; · iexact Ht
    iexact Ht'
  iintro ⟨Hc, HO⟩
  iapply Hk
  isplitr [HO]
  · isplitl [Hc]; · iexact Hc
    iexact Hat
  iexact HO

/-! ## Waits -/

theorem lvk_rcv_pos (k : Fin 8) : 0 < lvk (rcv k) := by revert k; decide
theorem lvk_snd (k : Fin 8) : lvk (snd k) ≤ 0 := by revert k; decide

/-- A wait for a departure. -/
theorem waitS_wp (k : Fin 8) (l : List (Fin 8)) {s : Shape} (src dst : Memref sig .tc .vmem s .bf16) (hN : dst.view.dmaCredit = cpy k)
    {hsrc : src.view.WordExact} {hdst : dst.view.WordExact} {kk : PUnit → ProgT F α} {Q : α → sProp 𝕄} :
    iprop(records m K ∗ levAts L lv) ⊢ iprop(outP c k -∗ owing c (owesR c l)
      -∗ ((owing c (owesR c l) ∗ semVal (kcell c (snd k)) 0 ∗ sendPay m k c) -∗ WP c (kk ⟨⟩) Q)
      -∗ WP c (.op (.waitDma2 (sndS k) src dst hsrc hdst) kk) Q) := by
  have H := wait_wp m K c (snd k) (snd_ne k) (sndS k) (sndS_eq k) src dst (hN.trans (amt_snd k).symm) (owesR c l)
    (mayWait_copies c _ l 0 ((lv_cell c (snd k)).trans_le (lvk_snd k)) fun k _ => lvk_rcv_pos k) (hsrc := hsrc) (hdst := hdst) (kk := kk) (Q := Q)
  rw [amt_snd, pay_snd] at H
  unfold outP
  iintro ⟨#HR, #HL⟩ ⟨Hc, Ha⟩ HO
  iapply H
  isplitr; · iexact HR
  isplitr; · iexact HL
  isplitl [Hc]; · iexact Hc
  isplitl [HO]; · iexact HO
  iexact Ha

/-- A wait for an arrival. -/
theorem waitR_wp (k : Fin 8) (l : List (Fin 8)) (hl : ∀ k' ∈ l, lvk (rcv k) < lvk (rcv k')) {s : Shape} (src dst : Memref sig .tc .vmem s .bf16)
    (hN : dst.view.dmaCredit = cpy k)
    {hsrc : src.view.WordExact} {hdst : dst.view.WordExact} {kk : PUnit → ProgT F α} {Q : α → sProp 𝕄} :
    iprop(records m K ∗ levAts L lv) ⊢ iprop(inP c k -∗ owing c (owesR c l)
      -∗ ((owing c (owesR c l) ∗ semVal (kcell c (rcv k)) 0 ∗ recvPay m k c) -∗ WP c (kk ⟨⟩) Q)
      -∗ WP c (.op (.waitDma2 (rcvS k) src dst hsrc hdst) kk) Q) := by
  have H := wait_wp m K c (rcv k) (rcv_ne k) (rcvS k) (rcvS_eq k) src dst (hN.trans (amt_rcv k).symm) (owesR c l)
    (mayWait_copies c _ l (lvk (rcv k)) (lv_cell c (rcv k)).le hl) (hsrc := hsrc) (hdst := hdst) (kk := kk) (Q := Q)
  rw [amt_rcv, pay_rcv] at H
  unfold inP
  iintro ⟨#HR, #HL⟩ ⟨Hc, Ha⟩ HO
  iapply H
  isplitr; · iexact HR
  isplitr; · iexact HL
  isplitl [Hc]; · iexact Hc
  isplitl [HO]; · iexact HO
  iexact Ha

/-! ## Loading the device's own experts -/

set_option backward.proofsInPublic true in
theorem expP_inb (r : Fin 4) : ∀ a, (![2 * r.val, 0, 0] : Fin 3 → ℕ) a + S2x512x1024.size a ≤ S8x512x1024.size a := by
  revert r; decide

/-- Experts `2r` and `2r+1` where the launch has put them. -/
abbrev expP (r : Fin 4) : Memref sig .tc .hbm S2x512x1024 .f32 :=
  eM.slice (Rect.unit (s := S8x512x1024) ![2 * r.val, 0, 0] S2x512x1024.size (expP_inb r)) (fun _ => rfl)

/-- What the staging buffer then holds. -/
def stgB (r : Fin 4) : FVec F S2x512x1024 .f32 := fun i =>
  ewB m c (ix3 ⟨2 * r.val + (i 0).val, by have : (i 0).val < 2 := (i 0).isLt; omega⟩ (i 1 : Fin 512) (i 2 : Fin 1024))

theorem expP_read (r : Fin 4) : (expP r).view.read (Elt F) (ewB m c) = stgB m c r := by
  funext i
  rw [View.read_apply]
  refine congrArg (ewB m c) ?_
  funext b
  fin_cases b
  · exact Fin.ext (show 2 * r.val + 1 * (i 0).val = 2 * r.val + (i 0).val by rw [Nat.one_mul])
  · exact Fin.ext (show 0 + 1 * (i 1).val = (i 1).val by omega)
  · exact Fin.ext (show 0 + 1 * (i 2).val = (i 2).val by omega)

theorem stage_pos : 0 < aM.view.dmaCredit := View.dmaCredit_pos _ (by decide)

/-- Two experts are copied into the staging buffer and waited for. -/
theorem fetch_wp (r : Fin 4) (sm : DmaSem sig) (O : CellTallies nD τ sig Unit) (hO : (levAts L lv : sProp 𝕄) ⊢ MayWait (c : Thread nD τ) (.dma sm) () O)
    (f : FVec F S2x512x1024 .f32) {hsrc : (expP r).view.WordExact} {hdst : aM.view.WordExact} {hsrc' : (expP r).view.WordExact} {hdst' : aM.view.WordExact}
    {hsem : DmaTarget.Typed (nD := nD) (τ := τ) (sig := sig) (p := .tc) .hbm (.dma sm) (DmaTarget.here aM)} {kk : PUnit → ProgT F α} {Q : α → sProp 𝕄} :
    levAts L lv ⊢ iprop(whole c main_arg3 (ewB m c) -∗ whole c cc0_scratch1 f -∗ semVal ((c : Thread nD τ), SemLoc.dma sm) 0 -∗ owing c O
      -∗ ((whole c main_arg3 (ewB m c) ∗ whole c cc0_scratch1 (stgB m c r) ∗ semVal ((c : Thread nD τ), SemLoc.dma sm) 0 ∗ owing c O) -∗ WP c (kk ⟨⟩) Q)
      -∗ WP c (.op (.enqueueDma (expP r) (.here aM) (.dma sm) hsrc hdst hsem) fun _ => .op (.waitDma2 sm (expP r) aM hsrc' hdst') kk) Q) := by
  unfold owing
  have hN : aM.view.amount (SemLoc.dma sm) = aM.view.dmaCredit := rfl
  have h1 := Transfers.wp_dmaLocal (defs := defs₀ (F := F)) (Q := Q) countersEmb 𝒱₀ (c : Thread nD τ) none (src := expP r) (via := ReadAs.same) (dst := aM) (sm := .dma sm)
    (hsrc := hsrc) (hdst := hdst) (hsem := hsem) (k := fun _ => .op (.waitDma2 sm (expP r) aM hsrc' hdst') kk) (q := fullShare) (fs := ewB m c) (Sd := Finset.univ) (fd := f)
    () aM.view.dmaCredit hN stage_pos (Finset.subset_univ _)
  iintro #HL He Ha Hv ⟨%W, HO⟩ Hk
  have hsub : (whole (F := F) c main_arg3 (ewB m c) : sProp 𝕄) ⊣⊢ _ :=
    pointsTo_split_subset (S := Finset.univ) (I := (expP r).view.set) (Finset.subset_univ _)
  ihave He := hsub.1 $$ He
  icases He with ⟨He, He'⟩
  iapply h1 $$ [He Ha Hv]
  · isplitl [He]; · iexact He
    isplitl [Ha]; · iexact Ha
    iexact Hv
  iintro HF
  have h2 := fun D => Transfers.wp_waitLocalO (defs := defs₀ (F := F)) (Q := Q) countersEmb 𝒱₀ (c : Thread nD τ) none (sem := sm) (srcw := expP r) (dstw := aM) (hsrc := hsrc') (hdst := hdst')
    (k := kk) () (N := aM.view.dmaCredit) rfl (D := D) (O := O) (W := W)
  iapply (h2 _) $$ [HF HO]
  · isplitl [HF]; · iexact HF
    isplitl [HO]; · iexact HO
    iapply hO; iexact HL
  iintro ⟨⟨Ha, He⟩, Hv, HO⟩
  iapply Hk
  ihave He := hsub.2 $$ [He He']
  · isplitl [He]; · iexact He
    iexact He'
  isplitl [He]; · iexact He
  isplitl [Ha]
  · rw [← expP_read m c r]
    iapply (Entails.of_eq (congrArg (fun g => whole (F := F) c cc0_scratch1 g)
      (View.write_whole_univ (Val := Elt F) cc0_scratch1 f ((expP r).view.read (Elt F) (ewB m c)))))
    iexact Ha
  isplitl [Hv]; · iexact Hv
  iexists _; iexact HO

end Steps

end Cert.ExpertProof
-- ==== Proof.Stores.lean ====
/-
Narrowing the device's own experts, and the probabilities.
-/
module

public import proofs.«01_k».proof.Proof.Moves

@[expose] public section

set_option maxRecDepth 16384

noncomputable section

namespace Cert.ExpertProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (m : (ℓ : Loc nD τ sig) → Buf (Elt F) ℓ)

/-! ## Narrowing the device's own experts -/

set_option backward.proofsInPublic true in
theorem stage_inb (i : Fin 2) : ∀ a, (![i.val, 0, 0] : Fin 3 → ℕ) a + S1x512x1024.size a ≤ S2x512x1024.size a := by
  revert i; decide

/-- One of the two experts in the staging buffer. -/
abbrev aR (i : Fin 2) : Rect S2x512x1024 := Rect.unit (s := S2x512x1024) ![i.val, 0, 0] S1x512x1024.size (stage_inb i)

/-- The device's own experts once the first `n` have been narrowed. -/
def ownUp (c : Dev nD) (n : ℕ) (f : FVec F S8x512x1024 .bf16) : FVec F S8x512x1024 .bf16 := fun i => if (i 0).val < n then ownB m c i else f i

theorem ownUp_zero (c : Dev nD) (f : FVec F S8x512x1024 .bf16) : ownUp m c 0 f = f := by
  funext i; exact if_neg (Nat.not_lt_zero _)

theorem narrow_eq (w : Vec F S1x512x1024 .f32) : k0_pay36 w = (truncf .bf16 w bitsLt_bf16_f32 : FVec F S1x512x1024 .bf16) :=
  shapeCast_shapeCast (truncf .bf16 w bitsLt_bf16_f32 : FVec F S1x512x1024 .bf16) shapeCasts_S1x512x1024_S512x1024 shapeCasts_S512x1024_S1x512x1024

theorem aR_emb (i : Fin 2) (y : S1x512x1024.Idx) : ((aR i).emb y : S2x512x1024.Idx) = ix3 i (y 1 : Fin 512) (y 2 : Fin 1024) := by
  have h0 : (y 0).val < 1 := (y 0).isLt
  funext b
  fin_cases b
  · exact Fin.ext (show i.val + 1 * (y 0).val = i.val by omega)
  · exact Fin.ext (show 0 + 1 * (y 1).val = (y 1).val by omega)
  · exact Fin.ext (show 0 + 1 * (y 2).val = (y 2).val by omega)
theorem wR_emb (j : Fin 8) (y : S1x512x1024.Idx) : ((wR j).emb y : S8x512x1024.Idx) = ix3 j (y 1 : Fin 512) (y 2 : Fin 1024) := by
  have h0 : (y 0).val < 1 := (y 0).isLt
  funext b
  fin_cases b
  · exact Fin.ext (show j.val + 1 * (y 0).val = j.val by omega)
  · exact Fin.ext (show 0 + 1 * (y 1).val = (y 1).val by omega)
  · exact Fin.ext (show 0 + 1 * (y 2).val = (y 2).val by omega)

theorem wR_set (j : Fin 8) : ((wM.access (wR j)).set : Finset S8x512x1024.Idx) = blkO j.val (j.val + 1) := by
  refine (View.set_slice_whole _ _).trans ?_
  ext i
  rw [Rect.mem_set_unit, mem_blkO]
  have h1 : (i 1).val < 512 := (i 1).isLt
  have h2 : (i 2).val < 1024 := (i 2).isLt
  exact ⟨fun hh => hh 0, fun hh b => by fin_cases b; exacts [hh, ⟨Nat.zero_le _, (Nat.zero_add _).symm ▸ h1⟩, ⟨Nat.zero_le _, (Nat.zero_add _).symm ▸ h2⟩]⟩

/-- Storing expert `2r+i` narrowed narrows one more. -/
theorem narrow_step (c : Dev nD) (r : Fin 4) (i : Fin 2) (j : Fin 8) (hj : j.val = 2 * r.val + i.val) (f : FVec F S8x512x1024 .bf16) :
    (wM.access (wR j)).write (Elt F) (ownUp m c j.val f) (k0_pay36 (aM.view.readAt (Elt F) (aR i).toLoadRect (stgB m c r))) Finset.univ
      = ownUp m c (j.val + 1) f := by
  funext x
  by_cases hx : x ∈ ((wM.access (wR j)).set : Finset S8x512x1024.Idx)
  · have hx' := hx
    rw [wR_set, mem_blkO] at hx'
    obtain ⟨y, -, rfl⟩ := Finset.mem_map.mp hx
    rw [View.write_emb_of_mem _ _ (Finset.mem_univ y), narrow_eq]
    have e : ((wM.access (wR j)).emb y : S8x512x1024.Idx) = ix3 j (y 1 : Fin 512) (y 2 : Fin 1024) := wR_emb j y
    have e' : ownUp m c (j.val + 1) f ((wM.access (wR j)).emb y) = ownB m c ((wM.access (wR j)).emb y) := if_pos hx'.2
    refine Eq.trans ?_ e'.symm
    refine Eq.trans ?_ (congrArg (ownB m c) e).symm
    have e2 : stgB m c r ((aR i).emb y) = ewB m c (ix3 j (y 1 : Fin 512) (y 2 : Fin 1024)) := by
      rw [aR_emb]
      exact congrArg (fun t : Fin 8 => ewB m c (ix3 t (y 1 : Fin 512) (y 2 : Fin 1024))) (Fin.ext hj.symm)
    exact congrArg (fun v : F .f32 => (truncf .bf16 (fun _ : S1x512x1024.Idx => v) bitsLt_bf16_f32 : FVec F S1x512x1024 .bf16) y) e2
  · have hx' := hx
    rw [wR_set, mem_blkO] at hx'
    rw [View.write_of_not_mem _ _ _ (fun h => hx h)]
    unfold ownUp
    by_cases h : (x 0).val < j.val
    · rw [if_pos h, if_pos (by omega)]
    · rw [if_neg h, if_neg (by omega)]

section Steps

variable (c : Dev nD) {α : Type}

/-- One own expert is read from the staging buffer, narrowed and stored. -/
theorem narrow_wp (r : Fin 4) (i : Fin 2) (j : Fin 8) (hj : j.val = 2 * r.val + i.val) (n n' : ℕ) (hn : j.val = n) (hn' : j.val + 1 = n') (a b : ℕ) (ha : a ≤ j.val) (hb : j.val < b)
    (f : FVec F S8x512x1024 .bf16) {h1 : aM.view.LoadsAt (aR i).toLoadRect} {h2 : wM.view.LoadsAt (wR j).toLoadRect}
    {h3 : (wM.access (wR j)).Stores Finset.univ} {h4 : (Finset.univ : Finset (wR j).shape.Idx) = Finset.univ ∨ ∀ a, (wR j).stride a = 1}
    {kk : PUnit → ProgT F α} {Q : α → sProp 𝕄} :
    whole c cc0_scratch1 (stgB m c r) ⊢ iprop(ownPts c fullShare a b (ownUp m c n f)
      -∗ ((whole c cc0_scratch1 (stgB m c r) ∗ ownPts c fullShare a b (ownUp m c n' f)) -∗ WP c (kk ⟨⟩) Q)
      -∗ WP c (.op (.load aM (aR i).toLoadRect h1) fun v => .op (.load wM (wR j).toLoadRect h2) fun _ =>
          .op (.store wM (wR j) (k0_pay36 v) Finset.univ h3 h4) kk) Q) := by
  subst hn hn'
  iintro Ha Ho Hk
  iapply (wp_load 𝒱₀ (c : Thread nD τ) none Set.univ (m := aM) (f := stgB m c r) (q := fullShare) (Finset.subset_univ _)) $$ Ha
  iintro Ha
  iapply (ld_own c j fullShare a b ha hb _) $$ Ho
  iintro Ho
  unfold ownPts
  have hs : (wM.access (wR j)).setOn Finset.univ ⊆ blkO a b := by
    intro x hx
    have hx' : x ∈ ((wM.access (wR j)).set : Finset S8x512x1024.Idx) := hx
    rw [wR_set, mem_blkO] at hx'
    exact mem_blkO.mpr ⟨by omega, by omega⟩
  have h := wp_store (defs := defs₀ (F := F)) (Γ := []) (Q := Q) 𝒱₀ (c : Thread nD τ) none Set.univ (m := wM) (r := wR j)
    (w := k0_pay36 (aM.view.readAt (Elt F) (aR i).toLoadRect (stgB m c r))) (Mk := Finset.univ)
    (hx := h3) (hm := h4) (k := kk) (S := blkO a b) (f := ownUp m c j.val f) hs
  rw [narrow_step m c r i j hj f] at h
  iapply h $$ Ho
  iintro Ho
  iapply Hk
  isplitl [Ha]; · iexact Ha
  iexact Ho

/-! ## Whole reads, and the probabilities -/

/-- What the probabilities are: of each token, the one of the expert it is routed to. -/
def prB (xf : FVec F S2048x512 .bf16) (rf : FVec F S512x32 .bf16) (jf : IVec S2048x1 32) : FVec F S2048x1 .f32 := k0_pay46 jf xf rf

theorem zero2 : (![0, 0] : Fin 2 → ℕ) = fun _ => 0 := by funext a; fin_cases a <;> rfl

/-- The probabilities are computed and stored. -/
theorem probs_wp (xf : FVec F S2048x512 .bf16) (rf : FVec F S512x32 .bf16) (jf : IVec S2048x1 32) (pf : FVec F S2048x1 .f32)
    {b0 : ∀ a, (![0, 0] : Fin 2 → ℕ) a + S2048x1.size a ≤ S2048x1.size a} {b1 : ∀ a, (![0, 0] : Fin 2 → ℕ) a + S2048x512.size a ≤ S2048x512.size a}
    {b2 : ∀ a, (![0, 0] : Fin 2 → ℕ) a + S512x32.size a ≤ S512x32.size a}
    {h1 : iM.view.LoadsAt (Rect.unit (s := S2048x1) ![0, 0] S2048x1.size b0).toLoadRect}
    {h2 : xM.view.LoadsAt (Rect.unit (s := S2048x512) ![0, 0] S2048x512.size b1).toLoadRect}
    {h3 : rM.view.LoadsAt (Rect.unit (s := S512x32) ![0, 0] S512x32.size b2).toLoadRect}
    {h4 : pM.view.LoadsAt (Rect.unit (s := S2048x1) ![0, 0] S2048x1.size b0).toLoadRect}
    {h5 : (pM.access (Rect.unit (s := S2048x1) ![0, 0] S2048x1.size b0)).Stores Finset.univ}
    {h6 : (Finset.univ : Finset (Rect.unit (s := S2048x1) ![0, 0] S2048x1.size b0).shape.Idx) = Finset.univ
      ∨ ∀ a, (Rect.unit (s := S2048x1) ![0, 0] S2048x1.size b0).stride a = 1}
    {kk : PUnit → ProgT F α} {Q : α → sProp 𝕄} :
    whole c cc0_stg0_0 xf ⊢ iprop(whole c cc0_stg1_0 rf -∗ whole c cc0_stg2_0 jf -∗ whole c cc0_scratch3 pf
      -∗ ((whole c cc0_stg0_0 xf ∗ whole c cc0_stg1_0 rf ∗ whole c cc0_stg2_0 jf ∗ whole c cc0_scratch3 (prB xf rf jf)) -∗ WP c (kk ⟨⟩) Q)
      -∗ WP c (.op (.load iM (Rect.unit (s := S2048x1) ![0, 0] S2048x1.size b0).toLoadRect h1) fun j =>
          .op (.load xM (Rect.unit (s := S2048x512) ![0, 0] S2048x512.size b1).toLoadRect h2) fun x =>
          .op (.load rM (Rect.unit (s := S512x32) ![0, 0] S512x32.size b2).toLoadRect h3) fun r =>
          .op (.load pM (Rect.unit (s := S2048x1) ![0, 0] S2048x1.size b0).toLoadRect h4) fun _ =>
          .op (.store pM (Rect.unit (s := S2048x1) ![0, 0] S2048x1.size b0) (k0_pay46 j x r) Finset.univ h5 h6) kk) Q) := by
  iintro Hx Hr Hj Hp Hk
  iapply (wp_load 𝒱₀ (c : Thread nD τ) none Set.univ (m := iM) (f := jf) (q := fullShare) (Finset.subset_univ _)) $$ Hj
  iintro Hj
  iapply (wp_load 𝒱₀ (c : Thread nD τ) none Set.univ (m := xM) (f := xf) (q := fullShare) (Finset.subset_univ _)) $$ Hx
  iintro Hx
  iapply (wp_load 𝒱₀ (c : Thread nD τ) none Set.univ (m := rM) (f := rf) (q := fullShare) (Finset.subset_univ _)) $$ Hr
  iintro Hr
  iapply (wp_load 𝒱₀ (c : Thread nD τ) none Set.univ (m := pM) (f := pf) (q := fullShare) (Finset.subset_univ _)) $$ Hp
  iintro Hp
  have e1 : iM.view.readAt (Elt F) (Rect.unit (s := S2048x1) ![0, 0] S2048x1.size b0).toLoadRect jf = jf :=
    Memref.readAt_unit_zero (Val := Elt F) cc0_stg2_0 zero2 _ jf
  have e2 : xM.view.readAt (Elt F) (Rect.unit (s := S2048x512) ![0, 0] S2048x512.size b1).toLoadRect xf = xf :=
    Memref.readAt_unit_zero (Val := Elt F) cc0_stg0_0 zero2 _ xf
  have e3 : rM.view.readAt (Elt F) (Rect.unit (s := S512x32) ![0, 0] S512x32.size b2).toLoadRect rf = rf :=
    Memref.readAt_unit_zero (Val := Elt F) cc0_stg1_0 zero2 _ rf
  rw [e1, e2, e3]
  have h := wp_store (defs := defs₀ (F := F)) (Γ := []) (Q := Q) 𝒱₀ (c : Thread nD τ) none Set.univ (m := pM) (r := Rect.unit (s := S2048x1) ![0, 0] S2048x1.size b0)
    (w := k0_pay46 jf xf rf) (Mk := Finset.univ)
    (hx := h5) (hm := h6) (k := kk) (S := Finset.univ) (f := pf) (Finset.subset_univ _)
  have e4 : (pM.access (Rect.unit (s := S2048x1) ![0, 0] S2048x1.size b0)).write (Elt F) pf (k0_pay46 jf xf rf) Finset.univ = prB xf rf jf :=
    Memref.write_access_unit_zero_univ (Val := Elt F) cc0_scratch3 zero2 _ pf _
  rw [e4] at h
  iapply h $$ Hp
  iintro Hp
  iapply Hk
  isplitl [Hx]; · iexact Hx
  isplitl [Hr]; · iexact Hr
  isplitl [Hj]; · iexact Hj
  iexact Hp

/-- The shared weights are read whole. -/
theorem shared_wp (sf : FVec F S512x1024 .bf16) {b0 : ∀ a, (![0, 0] : Fin 2 → ℕ) a + S512x1024.size a ≤ S512x1024.size a}
    {h1 : sM.view.LoadsAt (Rect.unit (s := S512x1024) ![0, 0] S512x1024.size b0).toLoadRect}
    {kk : Vec F S512x1024 .bf16 → ProgT F α} {Q : α → sProp 𝕄} :
    whole c cc0_stg3_0 sf ⊢ iprop((whole c cc0_stg3_0 sf -∗ WP c (kk sf) Q)
      -∗ WP c (.op (.load sM (Rect.unit (s := S512x1024) ![0, 0] S512x1024.size b0).toLoadRect h1) kk) Q) := by
  iintro Hs Hk
  iapply (wp_load 𝒱₀ (c : Thread nD τ) none Set.univ (m := sM) (f := sf) (q := fullShare) (Finset.subset_univ _)) $$ Hs
  iintro Hs
  have e : sM.view.readAt (Elt F) (Rect.unit (s := S512x1024) ![0, 0] S512x1024.size b0).toLoadRect sf = sf :=
    Memref.readAt_unit_zero (Val := Elt F) cc0_stg3_0 zero2 _ sf
  rw [e]
  iapply Hk; iexact Hs

end Steps

end Cert.ExpertProof
-- ==== Proof.Parts.lean ====
/-
The parts of the kernel body.
-/
module

public import proofs.«01_k».proof.Proof.Stores

@[expose] public section

set_option maxRecDepth 16384

noncomputable section

namespace Cert.ExpertProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The device numbers the program computes -/

def w2 (c : Dev nD) : BitVec 32 := Scalar.remsi (Scalar.divsi (Dev.word c) 1#32) 4#32
def w5 (c : Dev nD) : BitVec 32 := Scalar.remsi (Scalar.subi (Scalar.addi (w2 c) 4#32) 1#32) 4#32
def w7 (c : Dev nD) : BitVec 32 := Scalar.remsi (Scalar.addi (w2 c) 1#32) 4#32
def w257 (c : Dev nD) : BitVec 32 := Scalar.remsi (Scalar.addi (w2 c) 2#32) 4#32

theorem dev1 (c : Dev nD) : (⟨k0_dev1 c, k0_dev1_lt c⟩ : Dev nD) = prv c := Fin.ext (k0_dev1_eq c)
theorem dev2 (c : Dev nD) : (⟨k0_dev2 c, k0_dev2_lt c⟩ : Dev nD) = nxt c := Fin.ext (k0_dev2_eq c)
theorem dev3 (c : Dev nD) : (⟨k0_dev3 c, k0_dev3_lt c⟩ : Dev nD) = dstE 0 c := Fin.ext (k0_dev3_eq c)
theorem dev4 (c : Dev nD) : (⟨k0_dev4 c, k0_dev4_lt c⟩ : Dev nD) = dstE 1 c := Fin.ext (k0_dev4_eq c)
theorem dev5 (c : Dev nD) : (⟨k0_dev5 c, k0_dev5_lt c⟩ : Dev nD) = dstE 2 c := Fin.ext (k0_dev5_eq c)
theorem dev6 (c : Dev nD) : (⟨k0_dev6 c, k0_dev6_lt c⟩ : Dev nD) = dstE 3 c := Fin.ext (k0_dev6_eq c)
theorem dev7 (c : Dev nD) : (⟨k0_dev7 c, k0_dev7_lt c⟩ : Dev nD) = dstE 4 c := Fin.ext (k0_dev7_eq c)
theorem dev8 (c : Dev nD) : (⟨k0_dev8 c, k0_dev8_lt c⟩ : Dev nD) = dstE 6 c := Fin.ext (k0_dev8_eq c)
theorem dev9 (c : Dev nD) : (⟨k0_dev9 c, k0_dev9_lt c⟩ : Dev nD) = dstE 5 c := Fin.ext (k0_dev9_eq c)
theorem dev10 (c : Dev nD) : (⟨k0_dev10 c, k0_dev10_lt c⟩ : Dev nD) = dstE 7 c := Fin.ext (k0_dev10_eq c)

/-- The two semaphores of the local copies. -/
abbrev ldS (i : Fin 2) : DmaSem sig := (⟨21 + i.val, by have := i.isLt; show _ < 23; omega⟩ : Fin 23)

section Parts

variable (K : Dev nD × Fin 17 → ℕ) (c : Dev nD) {α : Type}

theorem device_wp {kk : Dev nD → ProgT F α} {Q : α → sProp 𝕄} : WP c (kk c) Q ⊢ WP c (.op .deviceId kk) Q :=
  Entails.of_eq (wp_deviceId (defs := defs₀ (F := F)) (Γ := []) (k := kk) (Q := Q) 𝒱₀ (c : Thread nD τ) none Set.univ).symm

theorem lv_ld (i : Fin 2) : lv ((c : Thread nD τ), SemLoc.dma (ldS i)) () ≤ 0 := by
  unfold lv
  have : sidx (SemLoc.dma (ldS i)) = none := by revert i; decide
  rw [this]

/-- What the loads of own experts use. -/
def loads (f : FVec F S2x512x1024 .f32) (a b n : ℕ) (g : FVec F S8x512x1024 .bf16) : sProp 𝕄 :=
  iprop(whole c main_arg3 (ewB m c) ∗ whole c cc0_scratch1 f ∗ ownPts c fullShare a b (ownUp m c n g)
    ∗ semVal ((c : Thread nD τ), SemLoc.dma (ldS 0)) 0 ∗ semVal ((c : Thread nD τ), SemLoc.dma (ldS 1)) 0)

/-- The first two own experts. -/
theorem part16_wp (f : FVec F S2x512x1024 .f32) (g : FVec F S8x512x1024 .bf16)
    {kk : (Σ' (d0 : Dev nD) (v2 : BitVec 32) (v5 : BitVec 32), BitVec 32) → ProgT F α} {Q : α → sProp 𝕄} :
    levAts L lv ⊢ iprop(loads m c f 0 8 0 g -∗ owing c (O₀ c) -∗ ((loads m c (stgB m c 0) 0 8 2 g ∗ owing c (O₀ c)) -∗ WP c (kk ⟨c, w2 c, w5 c, w7 c⟩) Q)
      -∗ WP c (k0_part16 xM (Memref.isWhole_whole _) rM (Memref.isWhole_whole _) iM (Memref.isWhole_whole _) eM (Memref.isWhole_whole _) sM (Memref.isWhole_whole _)
    oM (Memref.isWhole_whole _) gM (Memref.isWhole_whole _) aM (Memref.isWhole_whole _) wM (Memref.isWhole_whole _) pM (Memref.isWhole_whole _)
    cc0_scratch4 cc0_scratch5 cc0_scratch6 >>= kk) Q) := by
  unfold loads
  rw [k0_part16_eq_skeleton]
  unfold k0_part16_skel
  simp only [Prog.lift, Prog.bind_op, Prog.bind_ret, Prog.pure_eq_ret, Prog.bind_assoc]
  iintro #HL ⟨He, Ha, Ho, Hv0, Hv1⟩ HO Hk
  iapply (device_wp c)
  iapply (fetch_wp m c 0 (ldS 0) (O₀ c) (mayWait_start c _ (lv_ld c 0)) f) $$ HL He Ha Hv0 HO
  iintro ⟨He, Ha, Hv0, HO⟩
  iapply (narrow_wp m c 0 0 0 rfl 0 1 rfl rfl 0 8 (by decide) (by decide) g) $$ Ha Ho
  iintro ⟨Ha, Ho⟩
  iapply (narrow_wp m c 0 1 1 rfl 1 2 rfl rfl 0 8 (by decide) (by decide) g) $$ Ha Ho
  iintro ⟨Ha, Ho⟩
  iapply Hk
  isplitr [HO]
  · isplitl [He]; · iexact He
    isplitl [Ha]; · iexact Ha
    isplitl [Ho]; · iexact Ho
    isplitl [Hv0]; · iexact Hv0
    iexact Hv1
  iexact HO

/-! ## The buffers' pieces -/

theorem gat_give (f : FVec F S3x8x512x1024 .bf16) : whole c cc0_scratch0 f ⊢ iprop(nxtPieces c f ∗ prvPieces c f) := by
  unfold nxtPieces prvPieces
  iintro H
  ihave H := (gatPts_slots c fullShare f).1 $$ H
  icases H with ⟨H0, H1, H2⟩
  ihave H0 := (gatPts_split c fullShare (show 0 ≤ 4 by decide) (show 4 ≤ 8 by decide) f).1 $$ H0
  icases H0 with ⟨H0, H0'⟩
  ihave H1 := (gatPts_split c fullShare (show 0 ≤ 4 by decide) (show 4 ≤ 8 by decide) f).1 $$ H1
  icases H1 with ⟨H1, H1'⟩
  ihave H2 := (gatPts_split c fullShare (show 0 ≤ 4 by decide) (show 4 ≤ 8 by decide) f).1 $$ H2
  icases H2 with ⟨H2, H3⟩
  ihave H2 := (gatPts_split c fullShare (show 0 ≤ 2 by decide) (show 2 ≤ 4 by decide) f).1 $$ H2
  icases H2 with ⟨H2, H2'⟩
  ihave H3 := (gatPts_split c fullShare (show 4 ≤ 6 by decide) (show 6 ≤ 8 by decide) f).1 $$ H3
  icases H3 with ⟨H3, H3'⟩
  isplitl [H0 H0' H3 H3']
  · isplitl [H0]; · iexact H0
    isplitl [H0']; · iexact H0'
    isplitl [H3]; · iexact H3
    iexact H3'
  isplitl [H1]; · iexact H1
  isplitl [H1']; · iexact H1'
  isplitl [H2]; · iexact H2
  iexact H2'

/-- Experts 0 to 8 of a slot from its pairs. -/
theorem gat_pairs (s : ℕ) (f : FVec F S3x8x512x1024 .bf16) :
    iprop(gatPts c fullShare s 0 2 f ∗ gatPts c fullShare s 2 4 f ∗ gatPts c fullShare s 4 6 f ∗ gatPts c fullShare s 6 8 f) ⊢ gatPts c fullShare s 0 8 f := by
  iintro ⟨H0, H1, H2, H3⟩
  ihave H2 := (gatPts_split c fullShare (show 4 ≤ 6 by decide) (show 6 ≤ 8 by decide) f).2 $$ [H2 H3]
  · isplitl [H2]; · iexact H2
    iexact H3
  ihave H1 := (gatPts_split c fullShare (show 2 ≤ 4 by decide) (show 4 ≤ 8 by decide) f).2 $$ [H1 H2]
  · isplitl [H1]; · iexact H1
    iexact H2
  iapply (gatPts_split c fullShare (show 0 ≤ 2 by decide) (show 2 ≤ 8 by decide) f).2
  isplitl [H0]; · iexact H0
  iexact H1

theorem own_done (a b n : ℕ) (h : b ≤ n) (q : PosShare TreeShare) (g : FVec F S8x512x1024 .bf16) : ownPts c q a b (ownUp m c n g) = ownPts c q a b (ownB m c) := by
  unfold ownPts
  exact pointsTo_congr fun i hi => if_pos (Nat.lt_of_lt_of_le (mem_blkO.mp hi).2 h)

/-! ## The loops -/

/-- What four experts of slot `s` add to the `k`-th rows, -/
def addFour (s : Fin 3) (v : BitVec 32) (a b : Fin 4) (xf : FVec F S2048x512 .bf16) (jf : IVec S2048x1 32) (pf : FVec F S2048x1 .f32)
    (g : FVec F S3x8x512x1024 .bf16) (k : Fin 4) (o : Vec F S512x1024 .bf16) : FVec F S512x1024 .bf16 :=
  step4 v (fun i => BitVec.ofNat 32 (quad a b i).val) (rdX k xf) (rdI k jf) (rdP k pf)
    ![rdG s (quad a b 0) g, rdG s (quad a b 1) g, rdG s (quad a b 2) g, rdG s (quad a b 3) g] o
/-- what the device's own eight add, -/
def addOwn (v : BitVec 32) (xf : FVec F S2048x512 .bf16) (jf : IVec S2048x1 32) (pf : FVec F S2048x1 .f32)
    (g : FVec F S8x512x1024 .bf16) (k : Fin 4) (o : Vec F S512x1024 .bf16) : FVec F S512x1024 .bf16 :=
  step8 v (rdX k xf) (rdI k jf) (rdP k pf) ![rdW 0 g, rdW 1 g, rdW 2 g, rdW 3 g, rdW 4 g, rdW 5 g, rdW 6 g, rdW 7 g] o
/-- and the shared expert's term. -/
def putShared (sf : FVec F S512x1024 .bf16) (xf : FVec F S2048x512 .bf16) (k : Fin 4) (_ : Vec F S512x1024 .bf16) : FVec F S512x1024 .bf16 :=
  k0_pay48 (k0_pay47 sf) (rdX k xf)

variable (xf : FVec F S2048x512 .bf16) (rf : FVec F S512x32 .bf16) (jf : IVec S2048x1 32) (pf : FVec F S2048x1 .f32) (sf : FVec F S512x1024 .bf16) (o : FVec F S2048x1024 .bf16)

theorem loop4_wp (lp : Scf.Loop 32) (hok : lp.OK) (h4 : lp.trips = 4) (body : Fin lp.trips → Unit → ProgT F Unit)
    (s : Fin 3) (v : BitVec 32) (a b : Fin 4) (hb : ∀ k : Fin lp.trips, body k ⟨⟩ = trip4 (slotM s) v (quad a b) (k.cast h4))
    (sn a0 a1 b0 b1 : ℕ) (hs : s.val = sn) (ha0 : 2 * a.val = a0) (ha1 : 2 * a.val + 2 = a1) (hb0 : 2 * b.val = b0) (hb1 : 2 * b.val + 2 = b1)
    (q1 q2 : PosShare TreeShare) (g : FVec F S3x8x512x1024 .bf16) {kk : Unit → ProgT F α} {Q : α → sProp 𝕄} :
    rowsIn c xf jf pf ⊢ iprop(gatPts c q1 sn a0 a1 g -∗ gatPts c q2 sn b0 b1 g -∗ whole c cc0_stg4_0 o
      -∗ ((rowsIn c xf jf pf ∗ gatPts c q1 sn a0 a1 g ∗ gatPts c q2 sn b0 b1 g ∗ whole c cc0_stg4_0 (rowsLoop (addFour s v a b xf jf pf g) 4 o)) -∗ WP c (kk ⟨⟩) Q)
      -∗ WP c (Scf.Loop.for lp hok ⟨⟩ body >>= kk) Q) := by
  subst hs ha0 ha1 hb0 hb1
  have h := loop_wp c o lp hok h4 body iprop(rowsIn c xf jf pf ∗ gatPts c q1 s.val (2 * a.val) (2 * a.val + 2) g ∗ gatPts c q2 s.val (2 * b.val) (2 * b.val + 2) g)
    (addFour s v a b xf jf pf g) (fun k o Q => by rw [hb]; exact trip4_wp c (k.cast h4) xf jf pf o s v a b g q1 q2) (kk := kk) (Q := Q)
  iintro Hx Ha Hb Ho Hk
  iapply h $$ [Hx Ha Hb Ho]
  · isplitl [Hx Ha Hb]
    · isplitl [Hx]; · iexact Hx
      isplitl [Ha]; · iexact Ha
      iexact Hb
    iexact Ho
  iintro ⟨⟨Hx, Ha, Hb⟩, Ho⟩
  iapply Hk
  isplitl [Hx]; · iexact Hx
  isplitl [Ha]; · iexact Ha
  isplitl [Hb]; · iexact Hb
  iexact Ho

theorem loop8_wp (lp : Scf.Loop 32) (hok : lp.OK) (h4 : lp.trips = 4) (body : Fin lp.trips → Unit → ProgT F Unit) (v : BitVec 32)
    (hb : ∀ k : Fin lp.trips, body k ⟨⟩ = trip8 v (k.cast h4)) (q1 q2 : PosShare TreeShare) (g : FVec F S8x512x1024 .bf16)
    {kk : Unit → ProgT F α} {Q : α → sProp 𝕄} :
    rowsIn c xf jf pf ⊢ iprop(ownPts c q1 0 4 g -∗ ownPts c q2 4 8 g -∗ whole c cc0_stg4_0 o
      -∗ ((rowsIn c xf jf pf ∗ ownPts c q1 0 4 g ∗ ownPts c q2 4 8 g ∗ whole c cc0_stg4_0 (rowsLoop (addOwn v xf jf pf g) 4 o)) -∗ WP c (kk ⟨⟩) Q)
      -∗ WP c (Scf.Loop.for lp hok ⟨⟩ body >>= kk) Q) := by
  have h := loop_wp c o lp hok h4 body iprop(rowsIn c xf jf pf ∗ ownPts c q1 0 4 g ∗ ownPts c q2 4 8 g)
    (addOwn v xf jf pf g) (fun k o Q => by rw [hb]; exact trip8_wp c (k.cast h4) xf jf pf o v g q1 q2) (kk := kk) (Q := Q)
  iintro Hx Ha Hb Ho Hk
  iapply h $$ [Hx Ha Hb Ho]
  · isplitl [Hx Ha Hb]
    · isplitl [Hx]; · iexact Hx
      isplitl [Ha]; · iexact Ha
      iexact Hb
    iexact Ho
  iintro ⟨⟨Hx, Ha, Hb⟩, Ho⟩
  iapply Hk
  isplitl [Hx]; · iexact Hx
  isplitl [Ha]; · iexact Ha
  isplitl [Hb]; · iexact Hb
  iexact Ho

theorem loop1_wp (lp : Scf.Loop 32) (hok : lp.OK) (h4 : lp.trips = 4) (body : Fin lp.trips → Unit → ProgT F Unit)
    (hb : ∀ k : Fin lp.trips, body k ⟨⟩ = trip1 (k0_pay47 sf) (k.cast h4)) {kk : Unit → ProgT F α} {Q : α → sProp 𝕄} :
    rowsIn c xf jf pf ⊢ iprop(whole c cc0_stg4_0 o
      -∗ ((rowsIn c xf jf pf ∗ whole c cc0_stg4_0 (rowsLoop (putShared sf xf) 4 o)) -∗ WP c (kk ⟨⟩) Q)
      -∗ WP c (Scf.Loop.for lp hok ⟨⟩ body >>= kk) Q) := by
  have h := loop_wp c o lp hok h4 body (whole (F := F) c cc0_stg0_0 xf)
    (putShared sf xf) (fun k o Q => by rw [hb]; exact trip1_wp c (k.cast h4) xf o (k0_pay47 sf)) (kk := kk) (Q := Q)
  iintro ⟨Hx, Hi⟩ Ho Hk
  iapply h $$ [Hx Ho]
  · isplitl [Hx]; · iexact Hx
    iexact Ho
  iintro ⟨Hx, Ho⟩
  iapply Hk
  isplitl [Hx Hi]
  · isplitl [Hx]; · iexact Hx
    iexact Hi
  iexact Ho

/-! ## The barrier -/

/-- The third and fourth own experts, and the barrier of the neighbours. -/
theorem part17_wp (v5 v7 : BitVec 32) (g : FVec F S8x512x1024 .bf16) (gf : FVec F S3x8x512x1024 .bf16)
    {kk : BitVec 32 → ProgT F α} {Q : α → sProp 𝕄} :
    iprop(records m K ∗ levAts L lv) ⊢ iprop(loads m c (stgB m c 0) 0 8 2 g -∗ owing c (O₀ c) -∗ whole c cc0_scratch0 gf
      -∗ (dutyTok ER (kcell (prv c) 0) 0 false ∗ dutyTok ER (kcell (nxt c) 0) 0 true ∗ cred (tallyAt (kcell c 0) () 2) ∗ atPos ER (kcell c 0) 0 ∅ 0)
      -∗ ((loads m c (stgB m c 1) 0 8 4 g ∗ owing c (owesR c sent) ∗ semVal (kcell c 0) 0
          ∗ (∃ f, nxtPieces (F := F) (nxt c) f) ∗ (∃ f, prvPieces (F := F) (prv c) f)) -∗ WP c (kk 1#32) Q)
      -∗ WP c (k0_part17 xM (Memref.isWhole_whole _) rM (Memref.isWhole_whole _) iM (Memref.isWhole_whole _) eM (Memref.isWhole_whole _) sM (Memref.isWhole_whole _)
    oM (Memref.isWhole_whole _) gM (Memref.isWhole_whole _) aM (Memref.isWhole_whole _) wM (Memref.isWhole_whole _) pM (Memref.isWhole_whole _)
    cc0_scratch4 cc0_scratch5 cc0_scratch6 c v5 v7 >>= kk) Q) := by
  unfold loads
  rw [k0_part17_eq_skeleton]
  unfold k0_part17_skel
  simp only [semSignalWord, semWaitWord, Prog.lift, Prog.bind_op, Prog.bind_ret, Prog.pure_eq_ret, Prog.bind_assoc]
  rw [dev1, dev2]
  iintro ⟨#HR, #HL⟩ ⟨He, Ha, Ho, Hv0, Hv1⟩ HO Hg ⟨Ht, Ht', Hc, Hp⟩ Hk
  iapply (fetch_wp m c 1 (ldS 1) (O₀ c) (mayWait_start c _ (lv_ld c 1)) _) $$ HL He Ha Hv1 HO
  iintro ⟨He, Ha, Hv1, HO⟩
  iapply (narrow_wp m c 1 0 2 rfl 2 3 rfl rfl 0 8 (by decide) (by decide) g) $$ Ha Ho
  iintro ⟨Ha, Ho⟩
  iapply (narrow_wp m c 1 1 3 rfl 3 4 rfl rfl 0 8 (by decide) (by decide) g) $$ Ha Ho
  iintro ⟨Ha, Ho⟩
  ihave Hg := (gat_give c gf) $$ Hg
  icases Hg with ⟨Hg, Hg'⟩
  have e1 : barPay (F := F) (prv c) false = iprop(∃ f, nxtPieces (F := F) c f) := by
    show iprop(∃ f, nxtPieces (F := F) (nxt (prv c)) f) = _; rw [nxt_prv]
  have e2 : barPay (F := F) (nxt c) true = iprop(∃ f, prvPieces (F := F) c f) := by
    show iprop(∃ f, prvPieces (F := F) (prv (nxt c)) f) = _; rw [prv_nxt]
  iapply (signal_wp m K c (prv c) false (O₁ c)) $$ [HO Ht Hg]
  · isplitr; · iexact HR
    isplitl [HO]; · iexact HO
    isplitl [Ht]; · iexact Ht
    rw [e1]; iexists gf; iexact Hg
  iintro HO
  iapply (signal_wp m K c (nxt c) true (owesR c sent)) $$ [HO Ht' Hg']
  · isplitr; · iexact HR
    isplitl [HO]; · iexact HO
    isplitl [Ht']; · iexact Ht'
    rw [e2]; iexists gf; iexact Hg'
  iintro HO
  iapply (barrier_wp m K c (owesR c sent) (mayWait_copies c _ sent 1 (lv_cell c 0).le (by decide))) $$ [HO Hc Hp]
  · isplitr; · iexact HR
    isplitr; · iexact HL
    isplitl [Hc]; · iexact Hc
    isplitl [HO]; · iexact HO
    iexact Hp
  iintro ⟨HO, Hz, Hn, Hp⟩
  iapply Hk
  isplitl [He Ha Ho Hv0 Hv1]
  · isplitl [He]; · iexact He
    isplitl [Ha]; · iexact Ha
    isplitl [Ho]; · iexact Ho
    isplitl [Hv0]; · iexact Hv0
    iexact Hv1
  isplitl [HO]; · iexact HO
  isplitl [Hz]; · iexact Hz
  isplitl [Hn]; · iexact Hn
  iexact Hp

end Parts

end Cert.ExpertProof
-- ==== Proof.Copies.lean ====
/-
The copies of the kernel body, and what is added between them.
-/
module

public import proofs.«01_k».proof.Proof.Parts

@[expose] public section

set_option maxRecDepth 16384

noncomputable section

namespace Cert.ExpertProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

section Copies

theorem credit_4 (v : Memref sig .tc .vmem S4x512x1024 .bf16) : v.view.dmaCredit = N4 := rfl
theorem pay_five (x : Vec F S1x512x1024 .f32) : k0_pay41 (k0_pay40 x) = k0_pay36 x := rfl
theorem pay_eight (x : Vec F S1x512x1024 .f32) : k0_pay45 (k0_pay44 x) = k0_pay36 x := rfl
theorem credit_2 (v : Memref sig .tc .vmem S2x512x1024 .bf16) : v.view.dmaCredit = N2 := rfl

variable (K : Dev nD × Fin 17 → ℕ) (c : Dev nD) {α : Type}
variable (xf : FVec F S2048x512 .bf16) (rf : FVec F S512x32 .bf16) (jf : IVec S2048x1 32) (pf : FVec F S2048x1 .f32) (sf : FVec F S512x1024 .bf16) (o : FVec F S2048x1024 .bf16)

/-- The first four own experts leave, the last four are loaded, and the probabilities are computed. -/
theorem send_left_wp (v5 v7 w1 : BitVec 32) (g : FVec F S8x512x1024 .bf16) (fn fp : FVec F S3x8x512x1024 .bf16)
    {kk : PUnit → ProgT F α} {Q : α → sProp 𝕄} :
    iprop(records m K ∗ levAts L lv) ⊢ iprop(loads m c (stgB m c 1) 0 8 4 g
      -∗ owing c (owesR c [0, 1, 2, 3, 4, 6, 5, 7])
      -∗ gatPts (dstE 0 c) fullShare 0 0 4 fn
      -∗ gatPts (dstE 1 c) fullShare 1 0 4 fp
      -∗ preP c 0
      -∗ preP c 1
      -∗ whole c cc0_stg0_0 xf
      -∗ whole c cc0_stg1_0 rf
      -∗ whole c cc0_stg2_0 jf
      -∗ whole c cc0_scratch3 pf
      -∗ ((whole c main_arg3 (ewB m c)
          ∗ whole c cc0_scratch1 (stgB m c 3)
          ∗ semVal ((c : Thread nD τ), SemLoc.dma (ldS 0)) 0
          ∗ semVal ((c : Thread nD τ), SemLoc.dma (ldS 1)) 0
          ∗ ownPts c fullShare.left 0 4 (ownB m c)
          ∗ ownPts c fullShare 4 8 (ownB m c)
          ∗ owing c (owesR c [2, 3, 4, 6, 5, 7])
          ∗ outP c 1
          ∗ semVal (kcell c (snd 0)) 0
          ∗ whole c cc0_stg0_0 xf
          ∗ whole c cc0_stg1_0 rf
          ∗ whole c cc0_stg2_0 jf
          ∗ whole c cc0_scratch3 (prB xf rf jf)) -∗ WP c (kk ⟨⟩) Q)
      -∗ WP c (k0_part18 xM (Memref.isWhole_whole _) rM (Memref.isWhole_whole _) iM (Memref.isWhole_whole _) eM (Memref.isWhole_whole _) sM (Memref.isWhole_whole _)
    oM (Memref.isWhole_whole _) gM (Memref.isWhole_whole _) aM (Memref.isWhole_whole _) wM (Memref.isWhole_whole _) pM (Memref.isWhole_whole _)
    cc0_scratch4 cc0_scratch5 cc0_scratch6 c v5 v7 w1 >>= fun v75 => k0_part19 xM (Memref.isWhole_whole _) rM (Memref.isWhole_whole _) iM (Memref.isWhole_whole _) eM (Memref.isWhole_whole _) sM (Memref.isWhole_whole _)
    oM (Memref.isWhole_whole _) gM (Memref.isWhole_whole _) aM (Memref.isWhole_whole _) wM (Memref.isWhole_whole _) pM (Memref.isWhole_whole _)
    cc0_scratch4 cc0_scratch5 cc0_scratch6 v75 >>= fun v99 => k0_part20 xM (Memref.isWhole_whole _) rM (Memref.isWhole_whole _) iM (Memref.isWhole_whole _) eM (Memref.isWhole_whole _) sM (Memref.isWhole_whole _)
    oM (Memref.isWhole_whole _) gM (Memref.isWhole_whole _) aM (Memref.isWhole_whole _) wM (Memref.isWhole_whole _) pM (Memref.isWhole_whole _)
    cc0_scratch4 cc0_scratch5 cc0_scratch6 v99 >>= kk) Q) := by
  unfold loads
  simp only [k0_part18_eq_skeleton, k0_part18_skel, k0_part19_eq_skeleton, k0_part19_skel, k0_part20_eq_skeleton, k0_part20_skel]
  simp only [Prog.lift, Prog.bind_op, Prog.bind_ret, Prog.pure_eq_ret, Prog.bind_assoc]
  simp only [pay_five, pay_eight]
  iintro ⟨#HR, #HL⟩ ⟨He, Ha, Hw, Hv0, Hv1⟩ HO Hd0 Hd1 HP0 HP1 Hx Hr Hj Hp Hk
  ihave Hw := (ownPts_split c fullShare (show 0 ≤ 4 by decide) (show 4 ≤ 8 by decide) (ownUp m c 4 g)).1 $$ Hw
  icases Hw with ⟨Hw, Hw4⟩
  ihave Hw := Entails.of_eq (own_done m c 0 4 4 (Nat.le_refl 4) fullShare g) $$ Hw
  ihave Hw := (ownPts_halve c fullShare 0 4 (ownB m c)).1 $$ Hw
  icases Hw with ⟨Hw, Hw'⟩
  iapply (sendQ_wp m K c 0 rfl (dev3 c) 0 0 ⟨by decide, by decide⟩ (by decide) (srcDev_nxt c) fullShare.left rfl rfl fn [1, 2, 3, 4, 6, 5, 7]) $$ HR Hw Hd0 HO HP0
  iintro ⟨HU0, HO⟩
  iapply (sendQ_wp m K c 1 rfl (dev4 c) 1 0 ⟨by decide, by decide⟩ (by decide) (srcDev_prv c) fullShare.right rfl rfl fp [2, 3, 4, 6, 5, 7]) $$ HR Hw' Hd1 HO HP1
  iintro ⟨HU1, HO⟩
  iapply (fetch_wp m c 2 (ldS 0) (owesR c [2, 3, 4, 6, 5, 7]) (mayWait_copies c _ [2, 3, 4, 6, 5, 7] 0 (lv_ld c 0) fun k _ => lvk_rcv_pos k) _) $$ HL He Ha Hv0 HO
  iintro ⟨He, Ha, Hv0, HO⟩
  iapply (narrow_wp m c 2 0 4 rfl 4 5 rfl rfl 4 8 (by decide) (by decide) g) $$ Ha Hw4
  iintro ⟨Ha, Hw4⟩
  iapply (narrow_wp m c 2 1 5 rfl 5 6 rfl rfl 4 8 (by decide) (by decide) g) $$ Ha Hw4
  iintro ⟨Ha, Hw4⟩
  iapply (fetch_wp m c 3 (ldS 1) (owesR c [2, 3, 4, 6, 5, 7]) (mayWait_copies c _ [2, 3, 4, 6, 5, 7] 0 (lv_ld c 1) fun k _ => lvk_rcv_pos k) _) $$ HL He Ha Hv1 HO
  iintro ⟨He, Ha, Hv1, HO⟩
  iapply (narrow_wp m c 3 0 6 rfl 6 7 rfl rfl 4 8 (by decide) (by decide) g) $$ Ha Hw4
  iintro ⟨Ha, Hw4⟩
  iapply (narrow_wp m c 3 1 7 rfl 7 8 rfl rfl 4 8 (by decide) (by decide) g) $$ Ha Hw4
  iintro ⟨Ha, Hw4⟩
  ihave Hw4 := Entails.of_eq (own_done m c 4 8 8 (Nat.le_refl 8) fullShare g) $$ Hw4
  iapply (probs_wp c xf rf jf pf) $$ Hx Hr Hj Hp
  iintro ⟨Hx, Hr, Hj, Hp⟩
  iapply (waitS_wp m K c 0 [2, 3, 4, 6, 5, 7] _ _ (credit_4 _)) $$ [] HU0 HO
  · isplitr; · iexact HR
    iexact HL
  iintro ⟨HO, HS0, HX⟩
  ihave Hw := Entails.of_eq (show sendPay m 0 c = ownPts c fullShare.left 0 4 (ownB m c) from rfl) $$ HX
  iapply Hk
  isplitl [He]; · iexact He
  isplitl [Ha]; · iexact Ha
  isplitl [Hv0]; · iexact Hv0
  isplitl [Hv1]; · iexact Hv1
  isplitl [Hw]; · iexact Hw
  isplitl [Hw4]; · iexact Hw4
  isplitl [HO]; · iexact HO
  isplitl [HU1]; · iexact HU1
  isplitl [HS0]; · iexact HS0
  isplitl [Hx]; · iexact Hx
  isplitl [Hr]; · iexact Hr
  isplitl [Hj]; · iexact Hj
  iexact Hp

/-- The last four own experts leave; the shared expert, the own eight and the first four of the device before are added. -/
theorem send_right_wp (v2 v5 v7 : BitVec 32) (fn fp : FVec F S3x8x512x1024 .bf16)
    {kk : (Σ' (c0 : BitVec 32), BitVec 32) → ProgT F α} {Q : α → sProp 𝕄} :
    iprop(records m K ∗ levAts L lv) ⊢ iprop(owing c (owesR c [2, 3, 4, 6, 5, 7])
      -∗ outP c 1
      -∗ ownPts c fullShare.left 0 4 (ownB m c)
      -∗ ownPts c fullShare 4 8 (ownB m c)
      -∗ gatPts (dstE 2 c) fullShare 0 4 8 fn
      -∗ gatPts (dstE 3 c) fullShare 1 4 8 fp
      -∗ preP c 2
      -∗ preP c 3
      -∗ inP c 0
      -∗ inP c 1
      -∗ rowsIn c xf jf pf
      -∗ whole c cc0_stg3_0 sf
      -∗ whole c cc0_stg4_0 o
      -∗ ((owing c (owesR c [4, 6, 5, 7])
          ∗ semVal (kcell c (snd 1)) 0
          ∗ semVal (kcell c (rcv 0)) 0
          ∗ semVal (kcell c (rcv 1)) 0
          ∗ ownPts c fullShare 0 4 (ownB m c)
          ∗ ownPts c fullShare.left 4 8 (ownB m c)
          ∗ outP c 2
          ∗ outP c 3
          ∗ rowsIn c xf jf pf
          ∗ whole c cc0_stg3_0 sf
          ∗ gatPts c fullShare 0 0 2 (gB m c)
          ∗ gatPts c fullShare 0 2 4 (gB m c)
          ∗ gatPts c fullShare 1 0 4 (gB m c)
          ∗ whole c cc0_stg4_0 (rowsLoop (addFour 0 v5 0 1 xf jf pf (gB m c)) 4 (rowsLoop (addOwn v2 xf jf pf (ownB m c)) 4 (rowsLoop (putShared sf xf) 4 o)))) -∗ WP c (kk ⟨0#32, 4#32⟩) Q)
      -∗ WP c (k0_part21 xM (Memref.isWhole_whole _) rM (Memref.isWhole_whole _) iM (Memref.isWhole_whole _) eM (Memref.isWhole_whole _) sM (Memref.isWhole_whole _)
    oM (Memref.isWhole_whole _) gM (Memref.isWhole_whole _) aM (Memref.isWhole_whole _) wM (Memref.isWhole_whole _) pM (Memref.isWhole_whole _)
    cc0_scratch4 cc0_scratch5 cc0_scratch6 c v5 v7 >>= fun v158 => k0_part22 xM (Memref.isWhole_whole _) rM (Memref.isWhole_whole _) iM (Memref.isWhole_whole _) eM (Memref.isWhole_whole _) sM (Memref.isWhole_whole _)
    oM (Memref.isWhole_whole _) gM (Memref.isWhole_whole _) aM (Memref.isWhole_whole _) wM (Memref.isWhole_whole _) pM (Memref.isWhole_whole _)
    cc0_scratch4 cc0_scratch5 cc0_scratch6 v2 v5 v7 v158 >>= kk) Q) := by
  simp only [k0_part21_eq_skeleton, k0_part21_skel, k0_part22_eq_skeleton, k0_part22_skel]
  simp only [Prog.lift, Prog.bind_op, Prog.bind_ret, Prog.pure_eq_ret, Prog.bind_assoc]
  iintro ⟨#HR, #HL⟩ HO HU1 Hw Hw4 Hd2 Hd3 HP2 HP3 HI0 HI1 Hx Hs Hout Hk
  ihave Hw4 := (ownPts_halve c fullShare 4 8 (ownB m c)).1 $$ Hw4
  icases Hw4 with ⟨Hw4, Hw5⟩
  ihave Hw5 := (ownPts_halve c fullShare.right 4 8 (ownB m c)).1 $$ Hw5
  icases Hw5 with ⟨Hw5, Hw6⟩
  iapply (sendQ_wp m K c 2 rfl (dev5 c) 0 4 ⟨by decide, by decide⟩ (by decide) (srcDev_nxt c) fullShare.right.left rfl rfl fn [3, 4, 6, 5, 7]) $$ HR Hw5 Hd2 HO HP2
  iintro ⟨HU2, HO⟩
  iapply (waitS_wp m K c 1 [3, 4, 6, 5, 7] _ _ (credit_4 _)) $$ [] HU1 HO
  · isplitr; · iexact HR
    iexact HL
  iintro ⟨HO, HS1, HX⟩
  ihave Hw' := Entails.of_eq (show sendPay m 1 c = ownPts c fullShare.right 0 4 (ownB m c) from rfl) $$ HX
  ihave Hw := (ownPts_halve c fullShare 0 4 (ownB m c)).2 $$ [Hw Hw']
  · isplitl [Hw]; · iexact Hw
    iexact Hw'
  iapply (sendQ_wp m K c 3 rfl (dev6 c) 1 4 ⟨by decide, by decide⟩ (by decide) (srcDev_prv c) fullShare.right.right rfl rfl fp [4, 6, 5, 7]) $$ HR Hw6 Hd3 HO HP3
  iintro ⟨HU3, HO⟩
  iapply (shared_wp c sf) $$ Hs
  iintro Hs
  iapply (loop1_wp c xf jf pf sf o k0_t1_loop k0_t1_ok rfl _ (fun k => t1_body_eq _ _ _ _ k)) $$ Hx Hout
  iintro ⟨Hx, Hout⟩
  iapply (loop8_wp c xf jf pf (rowsLoop (putShared sf xf) 4 o) k0_t2_loop k0_t2_ok rfl _ v2 (fun k => t2_body_eq _ _ _ _ k) fullShare fullShare.left (ownB m c)) $$ Hx Hw Hw4 Hout
  iintro ⟨Hx, Hw, Hw4, Hout⟩
  iapply (waitR_wp m K c 0 [4, 6, 5, 7] (by decide) _ _ (credit_4 _)) $$ [] HI0 HO
  · isplitr; · iexact HR
    iexact HL
  iintro ⟨HO, HV0, HX⟩
  ihave Hg00 := Entails.of_eq (show recvPay m 0 c = gatPts c fullShare 0 0 4 (gB m c) from rfl) $$ HX
  ihave Hg00 := (gatPts_split c fullShare (s := 0) (show 0 ≤ 2 by decide) (show 2 ≤ 4 by decide) (gB m c)).1 $$ Hg00
  icases Hg00 with ⟨Hg00, Hg02⟩
  iapply (waitR_wp m K c 1 [4, 6, 5, 7] (by decide) _ _ (credit_4 _)) $$ [] HI1 HO
  · isplitr; · iexact HR
    iexact HL
  iintro ⟨HO, HV1, HX⟩
  ihave Hg10 := Entails.of_eq (show recvPay m 1 c = gatPts c fullShare 1 0 4 (gB m c) from rfl) $$ HX
  iapply (loop4_wp c xf jf pf (rowsLoop (addOwn v2 xf jf pf (ownB m c)) 4 (rowsLoop (putShared sf xf) 4 o)) k0_t3_loop k0_t3_ok rfl _ 0 v5 0 1 (fun k => t3_body_eq _ _ _ _ k) 0 0 2 2 4 rfl rfl rfl rfl rfl fullShare fullShare (gB m c)) $$ Hx Hg00 Hg02 Hout
  iintro ⟨Hx, Hg00, Hg02, Hout⟩
  iapply Hk
  isplitl [HO]; · iexact HO
  isplitl [HS1]; · iexact HS1
  isplitl [HV0]; · iexact HV0
  isplitl [HV1]; · iexact HV1
  isplitl [Hw]; · iexact Hw
  isplitl [Hw4]; · iexact Hw4
  isplitl [HU2]; · iexact HU2
  isplitl [HU3]; · iexact HU3
  isplitl [Hx]; · iexact Hx
  isplitl [Hs]; · iexact Hs
  isplitl [Hg00]; · iexact Hg00
  isplitl [Hg02]; · iexact Hg02
  isplitl [Hg10]; · iexact Hg10
  iexact Hout

/-- The first four of the device after are added, and two pairs go on. -/
theorem forward_one_wp (v5 v7 w0 w1 : BitVec 32) (fn fp : FVec F S3x8x512x1024 .bf16)
    {kk : PUnit → ProgT F α} {Q : α → sProp 𝕄} :
    iprop(records m K ∗ levAts L lv) ⊢ iprop(rowsIn c xf jf pf
      -∗ gatPts c fullShare 1 0 4 (gB m c)
      -∗ whole c cc0_stg4_0 o
      -∗ owing c (owesR c [4, 6, 5, 7])
      -∗ outP c 2
      -∗ outP c 3
      -∗ preP c 4
      -∗ preP c 6
      -∗ gatPts (dstE 4 c) fullShare 2 0 2 fp
      -∗ gatPts (dstE 6 c) fullShare 2 4 6 fn
      -∗ inP c 2
      -∗ inP c 3
      -∗ ownPts c fullShare.left 4 8 (ownB m c)
      -∗ ((rowsIn c xf jf pf
          ∗ whole c cc0_stg4_0 (rowsLoop (addFour 1 v7 0 1 xf jf pf (gB m c)) 4 o)
          ∗ owing c (owesR c [5, 7])
          ∗ outP c 4
          ∗ outP c 6
          ∗ semVal (kcell c (snd 2)) 0
          ∗ semVal (kcell c (snd 3)) 0
          ∗ semVal (kcell c (rcv 2)) 0
          ∗ ownPts c fullShare 4 8 (ownB m c)
          ∗ gatPts c fullShare 1 2 4 (gB m c)
          ∗ gatPts c fullShare.left 0 4 6 (gB m c)
          ∗ gatPts c fullShare 0 6 8 (gB m c)
          ∗ semVal (kcell c (rcv 3)) 0
          ∗ gatPts c fullShare 1 4 6 (gB m c)
          ∗ gatPts c fullShare 1 6 8 (gB m c)) -∗ WP c (kk ⟨⟩) Q)
      -∗ WP c (k0_part23 xM (Memref.isWhole_whole _) rM (Memref.isWhole_whole _) iM (Memref.isWhole_whole _) eM (Memref.isWhole_whole _) sM (Memref.isWhole_whole _)
    oM (Memref.isWhole_whole _) gM (Memref.isWhole_whole _) aM (Memref.isWhole_whole _) wM (Memref.isWhole_whole _) pM (Memref.isWhole_whole _)
    cc0_scratch4 cc0_scratch5 cc0_scratch6 c v5 v7 w0 w1 >>= fun _ => k0_part24 xM (Memref.isWhole_whole _) rM (Memref.isWhole_whole _) iM (Memref.isWhole_whole _) eM (Memref.isWhole_whole _) sM (Memref.isWhole_whole _)
    oM (Memref.isWhole_whole _) gM (Memref.isWhole_whole _) aM (Memref.isWhole_whole _) wM (Memref.isWhole_whole _) pM (Memref.isWhole_whole _)
    cc0_scratch4 cc0_scratch5 cc0_scratch6 c v5 v7 >>= kk) Q) := by
  simp only [k0_part23_eq_skeleton, k0_part23_skel, k0_part24_eq_skeleton, k0_part24_skel]
  simp only [Prog.lift, Prog.bind_op, Prog.bind_ret, Prog.pure_eq_ret, Prog.bind_assoc]
  iintro ⟨#HR, #HL⟩ Hx Hg10 Hout HO HU2 HU3 HP4 HP6 Hd4 Hd6 HI2 HI3 Hw4 Hk
  ihave Hg10 := (gatPts_split c fullShare (s := 1) (show 0 ≤ 2 by decide) (show 2 ≤ 4 by decide) (gB m c)).1 $$ Hg10
  icases Hg10 with ⟨Hg10, Hg12⟩
  iapply (loop4_wp c xf jf pf (o) k0_t4_loop k0_t4_ok rfl _ 1 v7 0 1 (fun k => t4_body_eq _ _ _ _ _ k) 1 0 2 2 4 rfl rfl rfl rfl rfl fullShare fullShare (gB m c)) $$ Hx Hg10 Hg12 Hout
  iintro ⟨Hx, Hg10, Hg12, Hout⟩
  iapply (waitS_wp m K c 3 [4, 6, 5, 7] _ _ (credit_4 _)) $$ [] HU3 HO
  · isplitr; · iexact HR
    iexact HL
  iintro ⟨HO, HS3, HX⟩
  ihave Hw6 := Entails.of_eq (show sendPay m 3 c = ownPts c fullShare.right.right 4 8 (ownB m c) from rfl) $$ HX
  iapply (sendP_wp m K c 4 rfl (dev7 c) 1 0 ⟨by decide, by decide⟩ ⟨by decide, by decide⟩ (srcDev_two_prv c) fullShare rfl rfl fp [6, 5, 7]) $$ HR Hg10 Hd4 HO HP4
  iintro ⟨HU4, HO⟩
  iapply (waitS_wp m K c 2 [6, 5, 7] _ _ (credit_4 _)) $$ [] HU2 HO
  · isplitr; · iexact HR
    iexact HL
  iintro ⟨HO, HS2, HX⟩
  ihave Hw5 := Entails.of_eq (show sendPay m 2 c = ownPts c fullShare.right.left 4 8 (ownB m c) from rfl) $$ HX
  ihave Hw5 := (ownPts_halve c fullShare.right 4 8 (ownB m c)).2 $$ [Hw5 Hw6]
  · isplitl [Hw5]; · iexact Hw5
    iexact Hw6
  ihave Hw4 := (ownPts_halve c fullShare 4 8 (ownB m c)).2 $$ [Hw4 Hw5]
  · isplitl [Hw4]; · iexact Hw4
    iexact Hw5
  iapply (waitR_wp m K c 2 [6, 5, 7] (by decide) _ _ (credit_4 _)) $$ [] HI2 HO
  · isplitr; · iexact HR
    iexact HL
  iintro ⟨HO, HV2, HX⟩
  ihave Hg04 := Entails.of_eq (show recvPay m 2 c = gatPts c fullShare 0 4 8 (gB m c) from rfl) $$ HX
  ihave Hg04 := (gatPts_split c fullShare (s := 0) (show 4 ≤ 6 by decide) (show 6 ≤ 8 by decide) (gB m c)).1 $$ Hg04
  icases Hg04 with ⟨Hg04, Hg06⟩
  ihave Hg04 := (gatPts_halve c fullShare 0 4 6 (gB m c)).1 $$ Hg04
  icases Hg04 with ⟨Hg04, Hg05⟩
  iapply (sendP_wp m K c 6 rfl (dev8 c) 0 4 ⟨by decide, by decide⟩ ⟨by decide, by decide⟩ (srcDev_two_nxt c) fullShare.right rfl rfl fn [5, 7]) $$ HR Hg05 Hd6 HO HP6
  iintro ⟨HU6, HO⟩
  iapply (waitR_wp m K c 3 [5, 7] (by decide) _ _ (credit_4 _)) $$ [] HI3 HO
  · isplitr; · iexact HR
    iexact HL
  iintro ⟨HO, HV3, HX⟩
  ihave Hg14 := Entails.of_eq (show recvPay m 3 c = gatPts c fullShare 1 4 8 (gB m c) from rfl) $$ HX
  ihave Hg14 := (gatPts_split c fullShare (s := 1) (show 4 ≤ 6 by decide) (show 6 ≤ 8 by decide) (gB m c)).1 $$ Hg14
  icases Hg14 with ⟨Hg14, Hg16⟩
  iapply Hk
  isplitl [Hx]; · iexact Hx
  isplitl [Hout]; · iexact Hout
  isplitl [HO]; · iexact HO
  isplitl [HU4]; · iexact HU4
  isplitl [HU6]; · iexact HU6
  isplitl [HS2]; · iexact HS2
  isplitl [HS3]; · iexact HS3
  isplitl [HV2]; · iexact HV2
  isplitl [Hw4]; · iexact Hw4
  isplitl [Hg12]; · iexact Hg12
  isplitl [Hg04]; · iexact Hg04
  isplitl [Hg06]; · iexact Hg06
  isplitl [HV3]; · iexact HV3
  isplitl [Hg14]; · iexact Hg14
  iexact Hg16

/-- The other fours of the two neighbours are added, and two more pairs go on. -/
theorem forward_two_wp (v2 v5 v7 : BitVec 32) (fn fp : FVec F S3x8x512x1024 .bf16)
    {kk : BitVec 32 → ProgT F α} {Q : α → sProp 𝕄} :
    iprop(records m K ∗ levAts L lv) ⊢ iprop(rowsIn c xf jf pf
      -∗ whole c cc0_stg4_0 o
      -∗ owing c (owesR c [5, 7])
      -∗ outP c 4
      -∗ outP c 6
      -∗ gatPts c fullShare 1 2 4 (gB m c)
      -∗ gatPts c fullShare.left 0 4 6 (gB m c)
      -∗ gatPts c fullShare 0 6 8 (gB m c)
      -∗ gatPts c fullShare 1 4 6 (gB m c)
      -∗ gatPts c fullShare 1 6 8 (gB m c)
      -∗ preP c 5
      -∗ preP c 7
      -∗ gatPts (dstE 5 c) fullShare 2 2 4 fp
      -∗ gatPts (dstE 7 c) fullShare 2 6 8 fn
      -∗ ((rowsIn c xf jf pf
          ∗ whole c cc0_stg4_0 (rowsLoop (addFour 1 v7 2 3 xf jf pf (gB m c)) 4 (rowsLoop (addFour 0 v5 2 3 xf jf pf (gB m c)) 4 o))
          ∗ owing c (owesR c [])
          ∗ outP c 5
          ∗ outP c 7
          ∗ semVal (kcell c (snd 4)) 0
          ∗ semVal (kcell c (snd 6)) 0
          ∗ gatPts c fullShare 1 0 2 (gB m c)
          ∗ gatPts c fullShare 1 4 6 (gB m c)
          ∗ gatPts c fullShare 1 6 8 (gB m c)
          ∗ gatPts c fullShare 0 4 6 (gB m c)) -∗ WP c (kk (Scalar.remsi (Scalar.addi v2 2#32) 4#32)) Q)
      -∗ WP c (k0_part25 xM (Memref.isWhole_whole _) rM (Memref.isWhole_whole _) iM (Memref.isWhole_whole _) eM (Memref.isWhole_whole _) sM (Memref.isWhole_whole _)
    oM (Memref.isWhole_whole _) gM (Memref.isWhole_whole _) aM (Memref.isWhole_whole _) wM (Memref.isWhole_whole _) pM (Memref.isWhole_whole _)
    cc0_scratch4 cc0_scratch5 cc0_scratch6 c v5 v7 >>= fun _ => k0_part26 xM (Memref.isWhole_whole _) rM (Memref.isWhole_whole _) iM (Memref.isWhole_whole _) eM (Memref.isWhole_whole _) sM (Memref.isWhole_whole _)
    oM (Memref.isWhole_whole _) gM (Memref.isWhole_whole _) aM (Memref.isWhole_whole _) wM (Memref.isWhole_whole _) pM (Memref.isWhole_whole _)
    cc0_scratch4 cc0_scratch5 cc0_scratch6 c v2 v5 v7 >>= kk) Q) := by
  simp only [k0_part25_eq_skeleton, k0_part25_skel, k0_part26_eq_skeleton, k0_part26_skel]
  simp only [Prog.lift, Prog.bind_op, Prog.bind_ret, Prog.pure_eq_ret, Prog.bind_assoc]
  iintro ⟨#HR, #HL⟩ Hx Hout HO HU4 HU6 Hg12 Hg04 Hg06 Hg14 Hg16 HP5 HP7 Hd5 Hd7 Hk
  iapply (loop4_wp c xf jf pf (o) k0_t5_loop k0_t5_ok rfl _ 0 v5 2 3 (fun k => t5_body_eq _ _ _ k) 0 4 6 6 8 rfl rfl rfl rfl rfl fullShare.left fullShare (gB m c)) $$ Hx Hg04 Hg06 Hout
  iintro ⟨Hx, Hg04, Hg06, Hout⟩
  iapply (loop4_wp c xf jf pf (rowsLoop (addFour 0 v5 2 3 xf jf pf (gB m c)) 4 o) k0_t6_loop k0_t6_ok rfl _ 1 v7 2 3 (fun k => t6_body_eq _ _ _ k) 1 4 6 6 8 rfl rfl rfl rfl rfl fullShare fullShare (gB m c)) $$ Hx Hg14 Hg16 Hout
  iintro ⟨Hx, Hg14, Hg16, Hout⟩
  iapply (waitS_wp m K c 4 [5, 7] _ _ (credit_2 _)) $$ [] HU4 HO
  · isplitr; · iexact HR
    iexact HL
  iintro ⟨HO, HS4, HX⟩
  ihave Hg10 := Entails.of_eq (show sendPay m 4 c = gatPts c fullShare 1 0 2 (gB m c) from rfl) $$ HX
  iapply (sendP_wp m K c 5 rfl (dev9 c) 1 2 ⟨by decide, by decide⟩ ⟨by decide, by decide⟩ (srcDev_two_prv c) fullShare rfl rfl fp [7]) $$ HR Hg12 Hd5 HO HP5
  iintro ⟨HU5, HO⟩
  iapply (waitS_wp m K c 6 [7] _ _ (credit_2 _)) $$ [] HU6 HO
  · isplitr; · iexact HR
    iexact HL
  iintro ⟨HO, HS6, HX⟩
  ihave Hg05 := Entails.of_eq (show sendPay m 6 c = gatPts c fullShare.right 0 4 6 (gB m c) from rfl) $$ HX
  ihave Hg04 := (gatPts_halve c fullShare 0 4 6 (gB m c)).2 $$ [Hg04 Hg05]
  · isplitl [Hg04]; · iexact Hg04
    iexact Hg05
  iapply (sendP_wp m K c 7 rfl (dev10 c) 0 6 ⟨by decide, by decide⟩ ⟨by decide, by decide⟩ (srcDev_two_nxt c) fullShare rfl rfl fn []) $$ HR Hg06 Hd7 HO HP7
  iintro ⟨HU7, HO⟩
  iapply Hk
  isplitl [Hx]; · iexact Hx
  isplitl [Hout]; · iexact Hout
  isplitl [HO]; · iexact HO
  isplitl [HU5]; · iexact HU5
  isplitl [HU7]; · iexact HU7
  isplitl [HS4]; · iexact HS4
  isplitl [HS6]; · iexact HS6
  isplitl [Hg10]; · iexact Hg10
  isplitl [Hg14]; · iexact Hg14
  isplitl [Hg16]; · iexact Hg16
  iexact Hg04

/-- Four experts of the device opposite are added. -/
theorem opposite_wp (v5 v7 v9 : BitVec 32)
    {kk : PUnit → ProgT F α} {Q : α → sProp 𝕄} :
    iprop(records m K ∗ levAts L lv) ⊢ iprop(rowsIn c xf jf pf
      -∗ whole c cc0_stg4_0 o
      -∗ owing c (owesR c [])
      -∗ inP c 4
      -∗ inP c 5
      -∗ inP c 6
      -∗ ((rowsIn c xf jf pf
          ∗ whole c cc0_stg4_0 (rowsLoop (addFour 2 v9 0 2 xf jf pf (gB m c)) 4 o)
          ∗ owing c (owesR c [])
          ∗ semVal (kcell c (rcv 4)) 0
          ∗ semVal (kcell c (rcv 5)) 0
          ∗ semVal (kcell c (rcv 6)) 0
          ∗ gatPts c fullShare 2 0 2 (gB m c)
          ∗ gatPts c fullShare 2 2 4 (gB m c)
          ∗ gatPts c fullShare 2 4 6 (gB m c)) -∗ WP c (kk ⟨⟩) Q)
      -∗ WP c (k0_part27 xM (Memref.isWhole_whole _) rM (Memref.isWhole_whole _) iM (Memref.isWhole_whole _) eM (Memref.isWhole_whole _) sM (Memref.isWhole_whole _)
    oM (Memref.isWhole_whole _) gM (Memref.isWhole_whole _) aM (Memref.isWhole_whole _) wM (Memref.isWhole_whole _) pM (Memref.isWhole_whole _)
    cc0_scratch4 cc0_scratch5 cc0_scratch6 v5 v7 v9 >>= kk) Q) := by
  simp only [k0_part27_eq_skeleton, k0_part27_skel]
  simp only [Prog.lift, Prog.bind_op, Prog.bind_ret, Prog.pure_eq_ret, Prog.bind_assoc]
  iintro ⟨#HR, #HL⟩ Hx Hout HO HI4 HI5 HI6 Hk
  iapply (waitR_wp m K c 4 [] (by decide) _ _ (credit_2 _)) $$ [] HI4 HO
  · isplitr; · iexact HR
    iexact HL
  iintro ⟨HO, HV4, HX⟩
  ihave Hg20 := Entails.of_eq (show recvPay m 4 c = gatPts c fullShare 2 0 2 (gB m c) from rfl) $$ HX
  iapply (waitR_wp m K c 6 [] (by decide) _ _ (credit_2 _)) $$ [] HI6 HO
  · isplitr; · iexact HR
    iexact HL
  iintro ⟨HO, HV6, HX⟩
  ihave Hg24 := Entails.of_eq (show recvPay m 6 c = gatPts c fullShare 2 4 6 (gB m c) from rfl) $$ HX
  iapply (loop4_wp c xf jf pf (o) k0_t7_loop k0_t7_ok rfl _ 2 v9 0 2 (fun k => t7_body_eq _ _ _ k) 2 0 2 4 6 rfl rfl rfl rfl rfl fullShare fullShare (gB m c)) $$ Hx Hg20 Hg24 Hout
  iintro ⟨Hx, Hg20, Hg24, Hout⟩
  iapply (waitR_wp m K c 5 [] (by decide) _ _ (credit_2 _)) $$ [] HI5 HO
  · isplitr; · iexact HR
    iexact HL
  iintro ⟨HO, HV5, HX⟩
  ihave Hg22 := Entails.of_eq (show recvPay m 5 c = gatPts c fullShare 2 2 4 (gB m c) from rfl) $$ HX
  iapply Hk
  isplitl [Hx]; · iexact Hx
  isplitl [Hout]; · iexact Hout
  isplitl [HO]; · iexact HO
  isplitl [HV4]; · iexact HV4
  isplitl [HV5]; · iexact HV5
  isplitl [HV6]; · iexact HV6
  isplitl [Hg20]; · iexact Hg20
  isplitl [Hg22]; · iexact Hg22
  iexact Hg24

end Copies

end Cert.ExpertProof
-- ==== Proof.Whole.lean ====
/-
The whole kernel body.
-/
module

public import proofs.«01_k».proof.Proof.Copies

@[expose] public section

set_option maxRecDepth 16384

noncomputable section

namespace Cert.ExpertProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

section Whole

variable (K : Dev nD × Fin 17 → ℕ) (c : Dev nD)
variable (xf : FVec F S2048x512 .bf16) (rf : FVec F S512x32 .bf16) (jf : IVec S2048x1 32) (pf : FVec F S2048x1 .f32) (sf : FVec F S512x1024 .bf16) (o : FVec F S2048x1024 .bf16)

/-- What the eight loops leave in the output buffer. -/
def total : FVec F S2048x1024 .bf16 :=
  let four (s : Fin 3) (v : BitVec 32) (a b : Fin 4) := addFour s v a b xf jf (prB xf rf jf) (gB m c)
  let o1 := rowsLoop (putShared sf xf) 4 o
  let o2 := rowsLoop (addOwn (w2 c) xf jf (prB xf rf jf) (ownB m c)) 4 o1
  let o3 := rowsLoop (four 0 (w5 c) 0 1) 4 o2
  let o4 := rowsLoop (four 1 (w7 c) 0 1) 4 o3
  let o5 := rowsLoop (four 0 (w5 c) 2 3) 4 o4
  let o6 := rowsLoop (four 1 (w7 c) 2 3) 4 o5
  let o7 := rowsLoop (four 2 (w257 c) 0 2) 4 o6
  rowsLoop (four 2 (w257 c) 1 3) 4 o7

/-- The targets of the copies to the next device, -/
theorem nxt_dst (f : FVec F S3x8x512x1024 .bf16) : nxtPieces (nxt c) f
    ⊢ iprop(gatPts (dstE 0 c) fullShare 0 0 4 f ∗ gatPts (dstE 2 c) fullShare 0 4 8 f ∗ gatPts (dstE 6 c) fullShare 2 4 6 f ∗ gatPts (dstE 7 c) fullShare 2 6 8 f) :=
  Entails.rfl
/-- and of those to the device before. -/
theorem prv_dst (f : FVec F S3x8x512x1024 .bf16) : prvPieces (prv c) f
    ⊢ iprop(gatPts (dstE 1 c) fullShare 1 0 4 f ∗ gatPts (dstE 3 c) fullShare 1 4 8 f ∗ gatPts (dstE 4 c) fullShare 2 0 2 f ∗ gatPts (dstE 5 c) fullShare 2 2 4 f) :=
  Entails.rfl

/-- All eight own experts are the whole buffer. -/
theorem own_whole (f : FVec F S8x512x1024 .bf16) : whole c cc0_scratch2 f ⊣⊢ ownPts c fullShare 0 8 f := by
  have e : blkO 0 8 = Finset.univ := Finset.eq_univ_iff_forall.mpr fun i => mem_blkO.mpr ⟨Nat.zero_le _, (i 0).isLt⟩
  have h : (whole c cc0_scratch2 f : sProp 𝕄) = ownPts c fullShare 0 8 f := by unfold ownPts; rw [e]
  exact ⟨Entails.of_eq h, Entails.of_eq h.symm⟩

/-- The whole body. -/
theorem body_wp (fa : FVec F S2x512x1024 .f32) (g : FVec F S8x512x1024 .bf16) (gf : FVec F S3x8x512x1024 .bf16) {Q : PUnit → sProp 𝕄} :
    iprop(records m K ∗ levAts L lv) ⊢ iprop(loads m c fa 0 8 0 g
      -∗ owing c (O₀ c)
      -∗ whole c cc0_scratch0 gf
      -∗ (dutyTok ER (kcell (prv c) 0) 0 false ∗ dutyTok ER (kcell (nxt c) 0) 0 true ∗ cred (tallyAt (kcell c 0) () 2) ∗ atPos ER (kcell c 0) 0 ∅ 0)
      -∗ preP c 0
      -∗ preP c 1
      -∗ preP c 2
      -∗ preP c 3
      -∗ preP c 4
      -∗ preP c 5
      -∗ preP c 6
      -∗ preP c 7
      -∗ inP c 0
      -∗ inP c 1
      -∗ inP c 2
      -∗ inP c 3
      -∗ inP c 4
      -∗ inP c 5
      -∗ inP c 6
      -∗ inP c 7
      -∗ whole c cc0_stg0_0 xf
      -∗ whole c cc0_stg1_0 rf
      -∗ whole c cc0_stg2_0 jf
      -∗ whole c cc0_scratch3 pf
      -∗ whole c cc0_stg3_0 sf
      -∗ whole c cc0_stg4_0 o
      -∗ ((whole c main_arg3 (ewB m c)
          ∗ whole c cc0_stg0_0 xf
          ∗ whole c cc0_stg1_0 rf
          ∗ whole c cc0_stg2_0 jf
          ∗ whole c cc0_stg3_0 sf
          ∗ whole c cc0_stg4_0 (total m c xf rf jf sf o)
          ∗ whole c cc0_scratch0 (gB m c)
          ∗ whole c cc0_scratch1 (stgB m c 3)
          ∗ whole c cc0_scratch2 (ownB m c)
          ∗ whole c cc0_scratch3 (prB xf rf jf)
          ∗ owing c (owesR c [])
          ∗ semVal ((c : Thread nD τ), SemLoc.dma (ldS 0)) 0
          ∗ semVal ((c : Thread nD τ), SemLoc.dma (ldS 1)) 0
          ∗ semVal (kcell c 0) 0
          ∗ semVal (kcell c (snd 0)) 0
          ∗ semVal (kcell c (snd 1)) 0
          ∗ semVal (kcell c (snd 2)) 0
          ∗ semVal (kcell c (snd 3)) 0
          ∗ semVal (kcell c (snd 4)) 0
          ∗ semVal (kcell c (snd 5)) 0
          ∗ semVal (kcell c (snd 6)) 0
          ∗ semVal (kcell c (snd 7)) 0
          ∗ semVal (kcell c (rcv 0)) 0
          ∗ semVal (kcell c (rcv 1)) 0
          ∗ semVal (kcell c (rcv 2)) 0
          ∗ semVal (kcell c (rcv 3)) 0
          ∗ semVal (kcell c (rcv 4)) 0
          ∗ semVal (kcell c (rcv 5)) 0
          ∗ semVal (kcell c (rcv 6)) 0
          ∗ semVal (kcell c (rcv 7)) 0) -∗ Q ⟨⟩)
      -∗ WP c (cc0_body xM (Memref.isWhole_whole _) rM (Memref.isWhole_whole _) iM (Memref.isWhole_whole _) eM (Memref.isWhole_whole _) sM (Memref.isWhole_whole _)
    oM (Memref.isWhole_whole _) gM (Memref.isWhole_whole _) aM (Memref.isWhole_whole _) wM (Memref.isWhole_whole _) pM (Memref.isWhole_whole _)
    cc0_scratch4 cc0_scratch5 cc0_scratch6) Q) := by
  rw [cc0_body_eq_skeleton]
  unfold cc0_body_skel
  simp only [k0_part28_eq_skeleton, k0_part28_skel]
  simp only [Prog.lift, Prog.bind_op, Prog.bind_ret, Prog.pure_eq_ret, Prog.bind_assoc]
  iintro ⟨#HR, #HL⟩ Hld HO Hg Hb HP0 HP1 HP2 HP3 HP4 HP5 HP6 HP7 HI0 HI1 HI2 HI3 HI4 HI5 HI6 HI7 Hx Hr Hj Hp Hs Hout Hk
  iapply (part16_wp m c fa g) $$ HL Hld HO
  iintro ⟨Hld, HO⟩
  iapply (part17_wp m K c (w5 c) (w7 c) g gf) $$ [] Hld HO Hg Hb
  · isplitr; · iexact HR
    iexact HL
  iintro ⟨Hld, HO, Hz, ⟨%fn, Hn⟩, ⟨%fp, Hq⟩⟩
  ihave HO := Entails.of_eq (show owing (F := F) c (owesR c sent) = owing c (owesR c [0, 1, 2, 3, 4, 6, 5, 7]) from rfl) $$ HO
  ihave Hn := (nxt_dst c fn) $$ Hn
  icases Hn with ⟨Hd0, Hd2, Hd6, Hd7⟩
  ihave Hq := (prv_dst c fp) $$ Hq
  icases Hq with ⟨Hd1, Hd3, Hd4, Hd5⟩
  iapply (send_left_wp m K c xf rf jf pf (w5 c) (w7 c) 1#32 g fn fp) $$ [] Hld HO Hd0 Hd1 HP0 HP1 Hx Hr Hj Hp
  · isplitr; · iexact HR
    iexact HL
  iintro ⟨He, Ha, Hv0, Hv1, Hw, Hw4, HO, HU1, HS0, Hx, Hr, Hj, Hp⟩
  ihave Hrow : rowsIn c xf jf (prB xf rf jf) $$ [Hx Hj Hp]
  · unfold rowsIn
    isplitl [Hx]; · iexact Hx
    isplitl [Hj]; · iexact Hj
    iexact Hp
  iapply (send_right_wp m K c xf jf (prB xf rf jf) sf o (w2 c) (w5 c) (w7 c) fn fp) $$ [] HO HU1 Hw Hw4 Hd2 Hd3 HP2 HP3 HI0 HI1 Hrow Hs Hout
  · isplitr; · iexact HR
    iexact HL
  iintro ⟨HO, HS1, HV0, HV1, Hw, Hw4, HU2, HU3, Hrow, Hs, Hg00, Hg02, Hg10, Hout⟩
  iapply (forward_one_wp m K c xf jf (prB xf rf jf) _ (w5 c) (w7 c) 0#32 4#32 fn fp) $$ [] Hrow Hg10 Hout HO HU2 HU3 HP4 HP6 Hd4 Hd6 HI2 HI3 Hw4
  · isplitr; · iexact HR
    iexact HL
  iintro ⟨Hrow, Hout, HO, HU4, HU6, HS2, HS3, HV2, Hw4, Hg12, Hg04, Hg06, HV3, Hg14, Hg16⟩
  iapply (forward_two_wp m K c xf jf (prB xf rf jf) _ (w2 c) (w5 c) (w7 c) fn fp) $$ [] Hrow Hout HO HU4 HU6 Hg12 Hg04 Hg06 Hg14 Hg16 HP5 HP7 Hd5 Hd7
  · isplitr; · iexact HR
    iexact HL
  iintro ⟨Hrow, Hout, HO, HU5, HU7, HS4, HS6, Hg10, Hg14, Hg16, Hg04⟩
  iapply (opposite_wp m K c xf jf (prB xf rf jf) _ (w5 c) (w7 c) (w257 c)) $$ [] Hrow Hout HO HI4 HI5 HI6
  · isplitr; · iexact HR
    iexact HL
  iintro ⟨Hrow, Hout, HO, HV4, HV5, HV6, Hg20, Hg22, Hg24⟩
  iapply (waitR_wp m K c 7 [] (by decide) _ _ (credit_2 _)) $$ [] HI7 HO
  · isplitr; · iexact HR
    iexact HL
  iintro ⟨HO, HV7, HX⟩
  ihave Hg26 := Entails.of_eq (show recvPay m 7 c = gatPts c fullShare 2 6 8 (gB m c) from rfl) $$ HX
  iapply (loop4_wp c xf jf (prB xf rf jf) _ k0_t8_loop k0_t8_ok rfl _ 2 (w257 c) 1 3 (fun k => t8_body_eq _ k) 2 2 4 6 8 rfl rfl rfl rfl rfl fullShare fullShare (gB m c)) $$ Hrow Hg22 Hg26 Hout
  iintro ⟨Hrow, Hg22, Hg26, Hout⟩
  iapply (waitS_wp m K c 5 [] _ _ (credit_2 _)) $$ [] HU5 HO
  · isplitr; · iexact HR
    iexact HL
  iintro ⟨HO, HS5, HX⟩
  ihave Hg12 := Entails.of_eq (show sendPay m 5 c = gatPts c fullShare 1 2 4 (gB m c) from rfl) $$ HX
  iapply (waitS_wp m K c 7 [] _ _ (credit_2 _)) $$ [] HU7 HO
  · isplitr; · iexact HR
    iexact HL
  iintro ⟨HO, HS7, HX⟩
  ihave Hg06 := Entails.of_eq (show sendPay m 7 c = gatPts c fullShare 0 6 8 (gB m c) from rfl) $$ HX
  ihave Hg0 := (gat_pairs c 0 (gB m c)) $$ [Hg00 Hg02 Hg04 Hg06]
  · isplitl [Hg00]; · iexact Hg00
    isplitl [Hg02]; · iexact Hg02
    isplitl [Hg04]; · iexact Hg04
    iexact Hg06
  ihave Hg1 := (gat_pairs c 1 (gB m c)) $$ [Hg10 Hg12 Hg14 Hg16]
  · isplitl [Hg10]; · iexact Hg10
    isplitl [Hg12]; · iexact Hg12
    isplitl [Hg14]; · iexact Hg14
    iexact Hg16
  ihave Hg2 := (gat_pairs c 2 (gB m c)) $$ [Hg20 Hg22 Hg24 Hg26]
  · isplitl [Hg20]; · iexact Hg20
    isplitl [Hg22]; · iexact Hg22
    isplitl [Hg24]; · iexact Hg24
    iexact Hg26
  ihave Hg := (gatPts_slots c fullShare (gB m c)).2 $$ [Hg0 Hg1 Hg2]
  · isplitl [Hg0]; · iexact Hg0
    isplitl [Hg1]; · iexact Hg1
    iexact Hg2
  ihave Hw := (ownPts_split c fullShare (show 0 ≤ 4 by decide) (show 4 ≤ 8 by decide) (ownB m c)).2 $$ [Hw Hw4]
  · isplitl [Hw]; · iexact Hw
    iexact Hw4
  ihave Hw := (own_whole c (ownB m c)).2 $$ Hw
  unfold rowsIn
  icases Hrow with ⟨Hx, Hj, Hp⟩
  iapply (ret_wp c)
  iapply Hk
  isplitl [He]; · iexact He
  isplitl [Hx]; · iexact Hx
  isplitl [Hr]; · iexact Hr
  isplitl [Hj]; · iexact Hj
  isplitl [Hs]; · iexact Hs
  isplitl [Hout]; · iexact Hout
  isplitl [Hg]; · iexact Hg
  isplitl [Ha]; · iexact Ha
  isplitl [Hw]; · iexact Hw
  isplitl [Hp]; · iexact Hp
  isplitl [HO]; · iexact HO
  isplitl [Hv0]; · iexact Hv0
  isplitl [Hv1]; · iexact Hv1
  isplitl [Hz]; · iexact Hz
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HV0]; · iexact HV0
  isplitl [HV1]; · iexact HV1
  isplitl [HV2]; · iexact HV2
  isplitl [HV3]; · iexact HV3
  isplitl [HV4]; · iexact HV4
  isplitl [HV5]; · iexact HV5
  isplitl [HV6]; · iexact HV6
  iexact HV7

end Whole

end Cert.ExpertProof
-- ==== Proof.Rows.lean ====
/-
What a loop over the rows of the result leaves there.
-/
module

public import proofs.«01_k».proof.Proof.Whole

@[expose] public section

set_option maxRecDepth 16384

noncomputable section

namespace Cert.ExpertProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

theorem offO_eq (k : Fin 4) : offO k = ![512 * k.val, 0] := by revert k; decide
theorem offX_eq (k : Fin 4) : offX k = ![512 * k.val, 0] := by revert k; decide
theorem offC_eq (k : Fin 4) : offC k = ![512 * k.val, 0] := by revert k; decide

/-- Row `a` of the `k`-th 512. -/
def row (k : Fin 4) (a : Fin 512) : Fin 2048 := ⟨512 * k.val + a.val, by omega⟩

theorem oR_emb (k : Fin 4) (y : S512x1024.Idx) : ((oR k).emb y : S2048x1024.Idx) = ix2 (row k (y 0 : Fin 512)) (y 1 : Fin 1024) := by
  funext b
  fin_cases b
  · exact Fin.ext (show offO k 0 + 1 * (y 0).val = 512 * k.val + (y 0).val by rw [offO_eq, Nat.one_mul]; rfl)
  · exact Fin.ext (show offO k 1 + 1 * (y 1).val = (y 1).val by rw [offO_eq]; show 0 + 1 * (y 1).val = _; omega)
theorem xR_emb (k : Fin 4) (y : S512x512.Idx) : ((xR k).emb y : S2048x512.Idx) = ix2 (row k (y 0 : Fin 512)) (y 1 : Fin 512) := by
  funext b
  fin_cases b
  · exact Fin.ext (show offX k 0 + 1 * (y 0).val = 512 * k.val + (y 0).val by rw [offX_eq, Nat.one_mul]; rfl)
  · exact Fin.ext (show offX k 1 + 1 * (y 1).val = (y 1).val by rw [offX_eq]; show 0 + 1 * (y 1).val = _; omega)
theorem cR_emb (k : Fin 4) (y : S512x1.Idx) : ((cR k).emb y : S2048x1.Idx) = ix2 (row k (y 0 : Fin 512)) (y 1 : Fin 1) := by
  funext b
  fin_cases b
  · exact Fin.ext (show offC k 0 + 1 * (y 0).val = 512 * k.val + (y 0).val by rw [offC_eq, Nat.one_mul]; rfl)
  · exact Fin.ext (show offC k 1 + 1 * (y 1).val = (y 1).val by rw [offC_eq]; show 0 + 1 * (y 1).val = _; omega)

theorem rdO_apply (k : Fin 4) (f : FVec F S2048x1024 .bf16) (y : S512x1024.Idx) : rdO k f y = f (ix2 (row k (y 0 : Fin 512)) (y 1 : Fin 1024)) :=
  congrArg f (oR_emb k y)
theorem rdX_apply (k : Fin 4) (f : FVec F S2048x512 .bf16) (y : S512x512.Idx) : rdX k f y = f (ix2 (row k (y 0 : Fin 512)) (y 1 : Fin 512)) :=
  congrArg f (xR_emb k y)
theorem rdI_apply (k : Fin 4) (f : IVec S2048x1 32) (y : S512x1.Idx) : rdI (F := F) k f y = f (ix2 (row k (y 0 : Fin 512)) (y 1 : Fin 1)) :=
  congrArg f (cR_emb k y)
theorem rdP_apply (k : Fin 4) (f : FVec F S2048x1 .f32) (y : S512x1.Idx) : rdP k f y = f (ix2 (row k (y 0 : Fin 512)) (y 1 : Fin 1)) :=
  congrArg f (cR_emb k y)

/-- Stored rows, -/
theorem stRow_in (k : Fin 4) (f : FVec F S2048x1024 .bf16) (w : FVec F S512x1024 .bf16) (a : Fin 512) (b : Fin 1024) :
    stRow k f w (ix2 (row k a) b) = w (ix2 a b) := by
  have h := View.write_emb_of_mem (Val := Elt F) (v := oM.access (oR k)) f w (Finset.mem_univ (ix2 a b))
  rw [show ((oM.access (oR k)).emb (ix2 a b) : S2048x1024.Idx) = ix2 (row k a) b from oR_emb k (ix2 a b)] at h
  exact h

/-- and the others. -/
theorem stRow_out (k j : Fin 4) (hj : j ≠ k) (f : FVec F S2048x1024 .bf16) (w : FVec F S512x1024 .bf16) (a : Fin 512) (b : Fin 1024) :
    stRow k f w (ix2 (row j a) b) = f (ix2 (row j a) b) := by
  refine View.write_of_not_mem (Val := Elt F) (v := oM.access (oR k)) f w _ ?_
  intro h
  obtain ⟨y, -, hy⟩ := Finset.mem_map.mp h
  have e : (ix2 (row k (y 0 : Fin 512)) (y 1 : Fin 1024) : S2048x1024.Idx) = ix2 (row j a) b := (oR_emb k y).symm.trans hy
  have e0 : 512 * k.val + (y 0).val = 512 * j.val + a.val := congrArg (fun i : S2048x1024.Idx => (i 0).val) e
  have h0 : (y 0).val < 512 := (y 0).isLt
  exact hj (Fin.ext (by omega))

/-- The loop's result in the rows of trip `k`. -/
theorem rowsLoop_apply (f : Fin 4 → Vec F S512x1024 .bf16 → FVec F S512x1024 .bf16) (n : ℕ) (o : FVec F S2048x1024 .bf16) (k : Fin 4) (a : Fin 512) (b : Fin 1024) :
    rowsLoop f n o (ix2 (row k a) b) = if k.val < n then f k (rdO k o) (ix2 a b) else o (ix2 (row k a) b) := by
  induction n generalizing k a b with
  | zero => rfl
  | succ n ih =>
    rw [rowsLoop]
    by_cases h : n < 4
    · rw [dif_pos h]
      have e : rdO ⟨n, h⟩ (rowsLoop f n o) = rdO ⟨n, h⟩ o := funext fun y => by
        rw [rdO_apply, rdO_apply]
        exact (ih ⟨n, h⟩ (y 0 : Fin 512) (y 1 : Fin 1024)).trans (if_neg (Nat.lt_irrefl n))
      rw [e]
      by_cases hk : k = ⟨n, h⟩
      · subst hk
        rw [stRow_in, if_pos (Nat.lt_succ_self n)]
      · rw [stRow_out _ _ hk, ih]
        have : k.val ≠ n := fun hh => hk (Fin.ext hh)
        by_cases h' : k.val < n
        · rw [if_pos h', if_pos (by omega)]
        · rw [if_neg h', if_neg (by omega)]
    · rw [dif_neg h, ih, if_pos (by omega), if_pos (by omega)]

/-- Every row is one of these. -/
theorem row_surj (i : S2048x1024.Idx) : ∃ k a b, i = ix2 (row k a) b := by
  have h0 : (i 0).val < 2048 := (i 0).isLt
  refine ⟨⟨(i 0).val / 512, by omega⟩, ⟨(i 0).val % 512, by omega⟩, (i 1 : Fin 1024), ?_⟩
  funext d
  fin_cases d
  · exact Fin.ext (show (i 0).val = 512 * ((i 0).val / 512) + (i 0).val % 512 by omega)
  · rfl

variable (m : (ℓ : Loc nD τ sig) → Buf (Elt F) ℓ)

/-- The first loop overwrites the whole buffer: what it held does not matter. -/
theorem total_any (c : Dev nD) (xf : FVec F S2048x512 .bf16) (rf : FVec F S512x32 .bf16) (jf : IVec S2048x1 32) (sf : FVec F S512x1024 .bf16) (o o' : FVec F S2048x1024 .bf16) :
    total m c xf rf jf sf o = total m c xf rf jf sf o' := by
  have h : rowsLoop (putShared sf xf) 4 o = rowsLoop (putShared sf xf) 4 o' := by
    funext i
    obtain ⟨k, a, b, rfl⟩ := row_surj i
    rw [rowsLoop_apply, rowsLoop_apply, if_pos k.isLt, if_pos k.isLt]
    rfl
  unfold total
  rw [h]

end Cert.ExpertProof
-- ==== Proof.Body.lean ====
/-
The kernel body as the pipeline runs it: the proof's data, and the obligation on every device.
-/
module

public import proofs.«01_k».proof.Proof.Rows

@[expose] public section

set_option maxRecDepth 16384

noncomputable section

namespace Cert.ExpertProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The blocks a device finds staged, and what it leaves -/

def xB (c : Dev nD) : FVec F S2048x512 .bf16 := (win0_0.blk t0_0).view.read (Elt F) (m ((c : Thread nD τ).loc main_arg0))
def rB (c : Dev nD) : FVec F S512x32 .bf16 := (win0_1.blk t0_0).view.read (Elt F) (m ((c : Thread nD τ).loc main_arg1))
def jB (c : Dev nD) : IVec S2048x1 32 := (win0_2.blk t0_0).view.read (Elt F) (m ((c : Thread nD τ).loc main_arg2))
def sB (c : Dev nD) : FVec F S512x1024 .bf16 := (win0_3.blk t0_0).view.read (Elt F) (m ((c : Thread nD τ).loc main_arg4))

/-- The result block. Every row of it is written, so what it held before is of no account. -/
def outB (c : Dev nD) : FVec F S2048x1024 .bf16 := total m c (xB m c) (rB m c) (jB m c) (sB m c) (truncf .bf16 (fun _ => FloatOps.ofBits .f32 0 : FVec F S2048x1024 .f32) bitsLt_bf16_f32)

/-! ## What a device starts from, and ends with -/

/-- The tokens of the duties a device pays, its place on each of its semaphores, and every semaphore's invariant. -/
def ghost (K : Dev nD × Fin 17 → ℕ) (c : Dev nD) : sProp 𝕄 :=
  iprop(records m K ∗ (dutyTok ER (kcell (prv c) 0) 0 false ∗ dutyTok ER (kcell (nxt c) 0) 0 true ∗ atPos ER (kcell c 0) 0 ∅ 0)
    ∗ (bigSep Finset.univ fun k : Fin 8 => preP c k) ∗ bigSep Finset.univ fun k : Fin 8 => atPos ER (kcell c (rcv k)) 0 ∅ 0)

/-- Before the body: those, the credit of what the device will receive, the levels, and its own experts. -/
def start (c : Dev nD) : sProp 𝕄 :=
  iprop((∃ K, ghost m K c) ∗ cred (tallyAt (kcell c 0) () 2) ∗ (bigSep Finset.univ fun k : Fin 8 => cred (tallyAt (kcell c (rcv k)) () (cpy k)))
    ∗ levAts L lv ∗ whole c main_arg3 (ewB m c))

/-- The kernel's four scratch buffers, at any contents. -/
def scratch (c : Dev nD) : sProp 𝕄 :=
  iprop((∃ f, whole c cc0_scratch0 f) ∗ (∃ f, whole c cc0_scratch1 f) ∗ (∃ f, whole c cc0_scratch2 f) ∗ ∃ f, whole c cc0_scratch3 f)

def Φ₀ (c : Dev nD) : sProp 𝕄 :=
  iprop(start m c ∗ semVal ((c : Thread nD τ), SemLoc.dma (ldS 0)) 0 ∗ semVal ((c : Thread nD τ), SemLoc.dma (ldS 1)) 0 ∗ scratch c)
/-- After it: the own experts unchanged, every semaphore at zero. -/
def Φ₁ (c : Dev nD) : sProp 𝕄 :=
  iprop(whole c main_arg3 (ewB m c) ∗ scratch c ∗ semVal ((c : Thread nD τ), SemLoc.dma (ldS 0)) 0 ∗ semVal ((c : Thread nD τ), SemLoc.dma (ldS 1)) 0
    ∗ semVal (kcell c 0) 0 ∗ (bigSep Finset.univ fun k : Fin 8 => semVal (kcell c (snd k)) 0) ∗ bigSep Finset.univ fun k : Fin 8 => semVal (kcell c (rcv k)) 0)

def dats (_ : Fin 1) (c : Dev nD) : Dat τ (Elt F) Unit ℕ UU ℕ cfg0 c where
  A w := m ((cfg0.win w).arr.view.loc (c : Thread nD τ))
  after w _ := match w with
    | ⟨0, _⟩ => xB m c
    | ⟨1, _⟩ => rB m c
    | ⟨2, _⟩ => jB m c
    | ⟨3, _⟩ => sB m c
    | ⟨4, _⟩ => outB m c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem one_by_one (Φ : Fin 8 → sProp 𝕄) :
    bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

theorem windows (Φ : Fin cfg0.W → sProp 𝕄) : bigSep Finset.univ Φ = iprop(Φ (0 : Fin 5) ∗ Φ (1 : Fin 5) ∗ Φ (2 : Fin 5) ∗ Φ (3 : Fin 5) ∗ Φ (4 : Fin 5)) := bigSep_W0 Φ

/-- Owning a staging buffer at `X` is holding it whole, at `X`. -/
theorem owns_iff (c : Dev nD) (b : Ref sig .tc) (X : b.ty.Contents (Elt F)) :
    (owns (Ix := Unit) (Name := ℕ) (U := UU) (Lvl := ℕ) (c : Thread nD τ) (Memref.whole b) fullShare X : sProp 𝕄) ⊣⊢ whole c b X := by
  unfold owns; simp only [Memref.view_whole, View.read_whole, View.set_whole]
  constructor
  · iintro ⟨%f, %h, H⟩; subst h; iexact H
  · iintro H; iexists X; isplitr; · (ipureintro; rfl)
    iexact H

theorem before_x (c : Dev nD) (d) : (dats m 0 c).before (0 : Fin 5) t0_0 d = xB m c := by
  unfold Dat.before; rw [if_pos (show (cfg0.win (0 : Fin 5)).fetch t0_0 = true from rfl)]; rfl
theorem before_r (c : Dev nD) (d) : (dats m 0 c).before (1 : Fin 5) t0_0 d = rB m c := by
  unfold Dat.before; rw [if_pos (show (cfg0.win (1 : Fin 5)).fetch t0_0 = true from rfl)]; rfl
theorem before_j (c : Dev nD) (d) : (dats m 0 c).before (2 : Fin 5) t0_0 d = jB m c := by
  unfold Dat.before; rw [if_pos (show (cfg0.win (2 : Fin 5)).fetch t0_0 = true from rfl)]; rfl
theorem before_s (c : Dev nD) (d) : (dats m 0 c).before (3 : Fin 5) t0_0 d = sB m c := by
  unfold Dat.before; rw [if_pos (show (cfg0.win (3 : Fin 5)).fetch t0_0 = true from rfl)]; rfl

/-- What the body is entered with, -/
def bodyPre (c : Dev nD) : sProp 𝕄 :=
  iprop(Φ₀ m c ∗ (dats m 0 c).owesAt () t0_0.castSucc
    ∗ (∃ d, owns (c : Thread nD τ) (Memref.whole cc0_stg0_0) fullShare ((dats m 0 c).before (0 : Fin 5) t0_0 d))
    ∗ (∃ d, owns (c : Thread nD τ) (Memref.whole cc0_stg1_0) fullShare ((dats m 0 c).before (1 : Fin 5) t0_0 d))
    ∗ (∃ d, owns (c : Thread nD τ) (Memref.whole cc0_stg2_0) fullShare ((dats m 0 c).before (2 : Fin 5) t0_0 d))
    ∗ (∃ d, owns (c : Thread nD τ) (Memref.whole cc0_stg3_0) fullShare ((dats m 0 c).before (3 : Fin 5) t0_0 d))
    ∗ (∃ d, owns (c : Thread nD τ) (Memref.whole cc0_stg4_0) fullShare ((dats m 0 c).before (4 : Fin 5) t0_0 d)))
/-- and what it leaves. -/
def bodyPost (c : Dev nD) : sProp 𝕄 :=
  iprop(Φ₁ m c ∗ (dats m 0 c).owesAt () t0_0.succ
    ∗ owns (c : Thread nD τ) (Memref.whole cc0_stg0_0) fullShare (xB m c)
    ∗ owns (c : Thread nD τ) (Memref.whole cc0_stg1_0) fullShare (rB m c)
    ∗ owns (c : Thread nD τ) (Memref.whole cc0_stg2_0) fullShare (jB m c)
    ∗ owns (c : Thread nD τ) (Memref.whole cc0_stg3_0) fullShare (sB m c)
    ∗ owns (c : Thread nD τ) (Memref.whole cc0_stg4_0) fullShare (outB m c))

theorem owes_in (c : Dev nD) : (dats m 0 c).owesAt () t0_0.castSucc ⊢ owing c (O₀ c) := by
  unfold Dat.owesAt Pipeline.owesWithin owing
  iintro ⟨%W, %hW, H⟩; iexists W; iexact H
theorem owes_out (c : Dev nD) : owing c (owesR c []) ⊢ (dats m 0 c).owesAt () t0_0.succ := by
  unfold Dat.owesAt Pipeline.owesWithin owing
  iintro ⟨%W, H⟩; iexists W
  isplitr; · ipureintro; exact fun _ _ => Or.inl trivial
  iexact H

theorem held (c : Dev nD) (b : Ref sig .tc) (B : (b.ty.Contents (Elt F)) → b.ty.Contents (Elt F)) (X : b.ty.Contents (Elt F)) (h : ∀ d, B d = X) :
    iprop(∃ d, owns (Ix := Unit) (Name := ℕ) (U := UU) (Lvl := ℕ) (c : Thread nD τ) (Memref.whole b) fullShare (B d)) ⊢ (whole c b X : sProp 𝕄) := by
  iintro ⟨%d, H⟩
  ihave H' := (owns_iff c b (B d)).1 $$ H
  ihave H'' := Entails.of_eq (congrArg (fun Y => (whole c b Y : sProp 𝕄)) (h d)) $$ H'
  iexact H''

set_option maxHeartbeats 1600000 in
theorem body_holds (c : Dev nD) : bodyPre m c ⊢ WP c (cc0_body xM (Memref.isWhole_whole _) rM (Memref.isWhole_whole _) iM (Memref.isWhole_whole _) eM (Memref.isWhole_whole _) sM (Memref.isWhole_whole _)
    oM (Memref.isWhole_whole _) gM (Memref.isWhole_whole _) aM (Memref.isWhole_whole _) wM (Memref.isWhole_whole _) pM (Memref.isWhole_whole _)
    cc0_scratch4 cc0_scratch5 cc0_scratch6) (fun _ => bodyPost m c) := by
  unfold bodyPre Φ₀ start scratch ghost
  simp only [one_by_one]
  iintro ⟨⟨⟨⟨%K, #HR, ⟨Ht1, Ht2, Hat⟩, ⟨P0, P1, P2, P3, P4, P5, P6, P7⟩, A0, A1, A2, A3, A4, A5, A6, A7⟩, Hc, ⟨C0, C1, C2, C3, C4, C5, C6, C7⟩, #HL, He⟩, Hl0, Hl1,
    ⟨%gf, Hg⟩, ⟨%fa, Ha⟩, ⟨%g, Hw⟩, ⟨%pf, Hp⟩⟩, Ho, Hx, Hr, Hj, Hs, ⟨%d, Hout⟩⟩
  ihave Hx := held c cc0_stg0_0 _ _ (before_x m c) $$ Hx
  ihave Hr := held c cc0_stg1_0 _ _ (before_r m c) $$ Hr
  ihave Hj := held c cc0_stg2_0 _ _ (before_j m c) $$ Hj
  ihave Hs := held c cc0_stg3_0 _ _ (before_s m c) $$ Hs
  ihave Hout := (owns_iff c cc0_stg4_0 _).1 $$ Hout
  ihave Ho := owes_in m c $$ Ho
  ihave Hw := (own_whole c g).1 $$ Hw
  ihave Hw := Entails.of_eq (congrArg (fun Y => (ownPts c fullShare 0 8 Y : sProp 𝕄)) (ownUp_zero m c g).symm) $$ Hw
  iapply (body_wp m K c (xB m c) (rB m c) (jB m c) pf (sB m c) ((dats m 0 c).before (4 : Fin 5) t0_0 d) fa g gf)
    $$ [] [He Ha Hw Hl0 Hl1] Ho Hg [Ht1 Ht2 Hc Hat] P0 P1 P2 P3 P4 P5 P6 P7 [C0 A0] [C1 A1] [C2 A2] [C3 A3] [C4 A4] [C5 A5] [C6 A6] [C7 A7] Hx Hr Hj Hp Hs Hout
  · isplitr; · iexact HR
    iexact HL
  · unfold loads; iframe
  · iframe
  · unfold inP; iframe
  · unfold inP; iframe
  · unfold inP; iframe
  · unfold inP; iframe
  · unfold inP; iframe
  · unfold inP; iframe
  · unfold inP; iframe
  · unfold inP; iframe
  iintro ⟨He, Hx, Hr, Hj, Hs, Hout, Hg, Ha, Hw, Hp, Ho, Hl0, Hl1, Hb, S0, S1, S2, S3, S4, S5, S6, S7, R0, R1, R2, R3, R4, R5, R6, R7⟩
  ihave Hout := Entails.of_eq (congrArg (fun Y => (whole c cc0_stg4_0 Y : sProp 𝕄)) (show total m c (xB m c) (rB m c) (jB m c) (sB m c) _ = outB m c from total_any m c _ _ _ _ _ _)) $$ Hout
  ihave Ho := owes_out m c $$ Ho
  ihave Hx := (owns_iff c cc0_stg0_0 _).2 $$ Hx
  ihave Hr := (owns_iff c cc0_stg1_0 _).2 $$ Hr
  ihave Hj := (owns_iff c cc0_stg2_0 _).2 $$ Hj
  ihave Hs := (owns_iff c cc0_stg3_0 _).2 $$ Hs
  ihave Hout := (owns_iff c cc0_stg4_0 _).2 $$ Hout
  unfold bodyPost Φ₁ scratch
  simp only [one_by_one]
  iframe
  isplitl [Hg]; · iexists _; iexact Hg
  isplitl [Ha]; · iexists _; iexact Ha
  isplitl [Hw]; · iexists _; iexact Hw
  iexists _; iexact Hp

set_option maxRecDepth 8000 in
/-- The pipeline's obligation on every device. -/
theorem obligation (c : Dev nD) : BodyObligation (dats (F := F) m 0 c) (defs₀ (F := F)) 𝒱₀ () Set.univ := fun t => by
  rw [show t = t0_0 from fin_N0 t]
  rw [windows, windows]
  exact body_holds m c

end Cert.ExpertProof
-- ==== Proof.Launch.lean ====
/-
The launch: the ring's ghost state is dealt out, and the program is run on all four devices.
-/
module

public import proofs.«01_k».proof.Proof.Body
public import Idealize.ShloMosaic.Lib.Pipeline.CollectiveSegs

@[expose] public section

set_option maxRecDepth 16384

noncomputable section

namespace Cert.ExpertProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The kernel's own semaphores -/

set_option backward.proofsInPublic true in
/-- Eight of sends, eight of receives, two of loads. -/
def osem (k : Fin 18) : SemLoc sig := .dma (⟨5 + k.val, Nat.lt_of_lt_of_le (Nat.add_lt_add_left k.isLt 5) (by decide)⟩ : Fin 23)

theorem ownSemFacts : Pipeline.OwnSemFacts cfg0.spec osem := by decide

theorem share_full (c : Dev nD) (w : Fin cfg0.W) : (dats m 0 c).share w = fullShare := by unfold Dat.share; split <;> rfl

/-- A conjunction over the ring's semaphores: the barrier, the sends, the receives. -/
theorem all_cells (Φ : Fin 17 → sProp 𝕄) :
    bigSep Finset.univ Φ ⊣⊢ iprop(Φ 0 ∗ (bigSep Finset.univ fun k : Fin 8 => Φ (snd k)) ∗ bigSep Finset.univ fun k : Fin 8 => Φ (rcv k)) := by
  have h : bigSep Finset.univ Φ = iprop(Φ 0 ∗ Φ (snd 0) ∗ Φ (snd 1) ∗ Φ (snd 2) ∗ Φ (snd 3) ∗ Φ (snd 4) ∗ Φ (snd 5) ∗ Φ (snd 6) ∗ Φ (snd 7)
      ∗ Φ (rcv 0) ∗ Φ (rcv 1) ∗ Φ (rcv 2) ∗ Φ (rcv 3) ∗ Φ (rcv 4) ∗ Φ (rcv 5) ∗ Φ (rcv 6) ∗ Φ (rcv 7)) :=
    bigSep_univ_eq_bigSepL [0, snd 0, snd 1, snd 2, snd 3, snd 4, snd 5, snd 6, snd 7, rcv 0, rcv 1, rcv 2, rcv 3, rcv 4, rcv 5, rcv 6, rcv 7] (by decide) (by decide) Φ
  rw [h, one_by_one, one_by_one]
  constructor
  · iintro H; icases H with ⟨B, S0, S1, S2, S3, S4, S5, S6, S7, R0, R1, R2, R3, R4, R5, R6, R7⟩; iframe
  · iintro ⟨B, ⟨S0, S1, S2, S3, S4, S5, S6, S7⟩, R0, R1, R2, R3, R4, R5, R6, R7⟩; iframe

/-- The counters of the loads. -/
def loadSems (c : Dev nD) : sProp 𝕄 := iprop(semVal ((c : Thread nD τ), SemLoc.dma (ldS 0)) 0 ∗ semVal ((c : Thread nD τ), SemLoc.dma (ldS 1)) 0)

theorem own_sems (c : Dev nD) : (Pipeline.ownSems0 (Ix := Unit) (Name := ℕ) (U := UU) (Lvl := ℕ) (Val := Elt F) (τ := τ) osem c : sProp 𝕄)
    ⊣⊢ iprop((bigSep Finset.univ fun k : Fin 8 => semVal (kcell c (snd k)) 0) ∗ (bigSep Finset.univ fun k : Fin 8 => semVal (kcell c (rcv k)) 0) ∗ loadSems c) := by
  have h : (Pipeline.ownSems0 (Ix := Unit) (Name := ℕ) (U := UU) (Lvl := ℕ) (Val := Elt F) (τ := τ) osem c : sProp 𝕄)
      = iprop(semVal (kcell c (snd 0)) 0 ∗ semVal (kcell c (snd 1)) 0 ∗ semVal (kcell c (snd 2)) 0 ∗ semVal (kcell c (snd 3)) 0
        ∗ semVal (kcell c (snd 4)) 0 ∗ semVal (kcell c (snd 5)) 0 ∗ semVal (kcell c (snd 6)) 0 ∗ semVal (kcell c (snd 7)) 0
        ∗ semVal (kcell c (rcv 0)) 0 ∗ semVal (kcell c (rcv 1)) 0 ∗ semVal (kcell c (rcv 2)) 0 ∗ semVal (kcell c (rcv 3)) 0
        ∗ semVal (kcell c (rcv 4)) 0 ∗ semVal (kcell c (rcv 5)) 0 ∗ semVal (kcell c (rcv 6)) 0 ∗ semVal (kcell c (rcv 7)) 0
        ∗ semVal ((c : Thread nD τ), SemLoc.dma (ldS 0)) 0 ∗ semVal ((c : Thread nD τ), SemLoc.dma (ldS 1)) 0) := by
    rw [Pipeline.ownSems0_eq_of_list c osem [0, 1, 2, 3, 4, 5, 6, 7, 8, 9, 10, 11, 12, 13, 14, 15, 16, 17] (by decide) (by decide)]; rfl
  rw [h, one_by_one, one_by_one]; unfold loadSems
  constructor
  · iintro H; icases H with ⟨S0, S1, S2, S3, S4, S5, S6, S7, R0, R1, R2, R3, R4, R5, R6, R7, L0, L1⟩; iframe
  · iintro ⟨⟨S0, S1, S2, S3, S4, S5, S6, S7⟩, ⟨R0, R1, R2, R3, R4, R5, R6, R7⟩, L0, L1⟩; iframe

/-- The barrier is the launch's one unscoped semaphore. -/
theorem bar_sem (c : Dev nD) : (unscopedSems0 c : sProp 𝕄) = semVal (kcell c 0) 0 := by
  unfold unscopedSems0; rw [bigSep_eq_bigSepL_of_eq [SemLoc.reg barS] (by decide) (by decide)]; rfl

/-! ## The ring's cells and tokens -/

abbrev cellAt (ck : Dev nD × Fin 17) : GSem nD τ sig := kcell ck.1 ck.2

theorem cellAt_injective : Function.Injective cellAt := by
  rintro ⟨c, k⟩ ⟨c', k'⟩ h
  have h1 : c = c' := congrArg (fun g : GSem nD τ sig => g.1.1) h
  have h2 : k = k' := csem_injective (congrArg Prod.snd h)
  rw [h1, h2]
def ringCells : Finset (GSem nD τ sig) := Finset.univ.map ⟨cellAt, cellAt_injective⟩

/-- A device's own duties: `true` on its barrier, `false` on each of its semaphores. -/
abbrev tokAt (cj : Dev nD × Option (Fin 17)) : GSem nD τ sig × ℕ × Bool := match cj.2 with
  | none => (kcell cj.1 0, 0, true)
  | some k => (kcell cj.1 k, 0, false)
theorem tokAt_injective : Function.Injective tokAt := by
  rintro ⟨c, j⟩ ⟨c', j'⟩ h
  have h1 : c = c' := by
    have := congrArg (fun x : GSem nD τ sig × ℕ × Bool => x.1.1.1) h
    cases j <;> cases j' <;> exact this
  subst h1
  cases j with
  | none => cases j' with
    | none => rfl
    | some k' => exact absurd (congrArg (fun x : GSem nD τ sig × ℕ × Bool => x.2.2) h) (fun h' => by cases h')
  | some k => cases j' with
    | none => exact absurd (congrArg (fun x : GSem nD τ sig × ℕ × Bool => x.2.2) h) (fun h' => by cases h')
    | some k' =>
      have h2 : k = k' := csem_injective (congrArg (fun x : GSem nD τ sig × ℕ × Bool => x.1.2) h)
      rw [h2]
def ringToks : Finset (GSem nD τ sig × ℕ × Bool) := Finset.univ.map ⟨tokAt, tokAt_injective⟩

/-- The ghost state the machine is launched with. -/
def u₀ : UU := (initOf (Pipeline.cells cfgs cellOf_inj) (Pipeline.launchToks cfgs cellOf_inj), (initOf ringCells ringToks, 1))

/-- The tokens of a device's own duties, -/
def ownToks (c : Dev nD) : sProp 𝕄 :=
  iprop(dutyTok ER (kcell c 0) 0 true ∗ dutyTok ER (kcell c 0) 0 false ∗ (bigSep Finset.univ fun k : Fin 8 => dutyTok ER (kcell c (snd k)) 0 false)
    ∗ bigSep Finset.univ fun k : Fin 8 => dutyTok ER (kcell c (rcv k)) 0 false)
/-- and of those it pays. -/
def payToks (c : Dev nD) : sProp 𝕄 :=
  iprop(dutyTok ER (kcell (nxt c) 0) 0 true ∗ dutyTok ER (kcell (prv c) 0) 0 false ∗ (bigSep Finset.univ fun k : Fin 8 => dutyTok ER (kcell c (snd k)) 0 false)
    ∗ bigSep Finset.univ fun k : Fin 8 => dutyTok ER (kcell (dstE k c) (rcv k)) 0 false)

/-- A conjunction over devices and copies may be taken in either order. -/
theorem swap (Φ : Dev nD → Fin 8 → sProp 𝕄) : (bigSep Finset.univ fun c => bigSep Finset.univ fun k => Φ c k) = bigSep Finset.univ fun k => bigSep Finset.univ fun c => Φ c k := by
  rw [← bigSep_univ_prod fun x : Dev nD × Fin 8 => Φ x.1 x.2, ← bigSep_univ_prod fun x : Fin 8 × Dev nD => Φ x.2 x.1,
    bigSep_univ_equiv (Equiv.prodComm (Fin 8) (Dev nD))]
  rfl

/-- Over all the devices they are the same. -/
theorem toks_around : (bigSep Finset.univ fun c : Dev nD => (ownToks c : sProp 𝕄)) ⊢ bigSep Finset.univ fun c : Dev nD => payToks c := by
  have h : (bigSep Finset.univ fun c : Dev nD => bigSep Finset.univ fun k : Fin 8 => (dutyTok ER (kcell c (rcv k)) 0 false : sProp 𝕄))
      = bigSep Finset.univ fun c : Dev nD => bigSep Finset.univ fun k : Fin 8 => dutyTok ER (kcell (dstE k c) (rcv k)) 0 false := by
    rw [swap, swap fun (c : Dev nD) (k : Fin 8) => (dutyTok ER (kcell (dstE k c) (rcv k)) 0 false : sProp 𝕄)]
    exact bigSep_congr fun k _ => bigSep_univ_equiv (dstE k) fun c : Dev nD => (dutyTok ER (kcell c (rcv k)) 0 false : sProp 𝕄)
  unfold ownToks payToks
  rw [bigSep_sep', bigSep_sep', bigSep_sep', bigSep_sep', bigSep_sep', bigSep_sep', h,
    bigSep_univ_equiv ring (fun c : Dev nD => (dutyTok ER (kcell c 0) 0 true : sProp 𝕄)),
    bigSep_univ_equiv ring.symm (fun c : Dev nD => (dutyTok ER (kcell c 0) 0 false : sProp 𝕄))]
  exact Entails.refl _

/-- What the launch deals a device, -/
def G (c : Dev nD) : sProp 𝕄 :=
  iprop((bigSep Finset.univ fun k : Fin 17 => roundState ER (ringRd m) (kcell c k) 0)
    ∗ (bigSep Finset.univ fun k : Fin 17 => reached ER (kcell c k) 0) ∗ (bigSep Finset.univ fun k : Fin 17 => atPos ER (kcell c k) 0 ∅ 0) ∗ ownToks c)
/-- and what the devices make of it together. -/
def G' (c : Dev nD) : sProp 𝕄 := iprop((∃ K, ghost m K c) ∗ loadSems c)

theorem deal : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Fin 17 => Φ (kcell c k) := by
    unfold ringCells; rw [bigSep_map, bigSep_univ_prod]; rfl
  have hT : bigSep ringToks (fun x => (dutyTok ER x.1 x.2.1 x.2.2 : sProp 𝕄)) ⊢ bigSep Finset.univ fun c : Dev nD => ownToks c := by
    unfold ringToks; rw [bigSep_map, bigSep_univ_prod]
    refine bigSep_mono fun c _ => ?_
    have ho : (bigSep Finset.univ fun b : Option (Fin 17) => (dutyTok ER (tokAt (c, b)).1 (tokAt (c, b)).2.1 (tokAt (c, b)).2.2 : sProp 𝕄))
        ⊢ iprop(dutyTok ER (kcell c 0) 0 true ∗ bigSep Finset.univ fun k : Fin 17 => dutyTok ER (kcell c k) 0 false) := by
      have hu : (Finset.univ : Finset (Option (Fin 17))) = insert none (Finset.univ.map Function.Embedding.some) := by
        ext b; cases b <;> simp
      rw [hu, BI.bigSep_insert (by simp), bigSep_map]; exact Entails.refl _
    refine ho.trans ?_
    unfold ownToks
    iintro ⟨Ht, H⟩
    ihave H := (all_cells fun k : Fin 17 => (dutyTok ER (kcell c k) 0 false : sProp 𝕄)).1 $$ H
    iframe
  iintro HX
  imod (Rounds.fund ER (ringRd m) ringCells ringToks) $$ HX with ⟨Hst, Hr, Hat, Htok⟩
  imodintro
  ihave Hst := (Entails.of_eq (hX fun g => roundState ER (ringRd m) g 0)) $$ Hst
  ihave Hat := (Entails.of_eq (hX fun g => atPos ER g 0 ∅ 0)) $$ Hat
  ihave Hr := (Entails.of_eq (hX fun g => reached ER g 0)) $$ Hr
  ihave Htok := hT $$ Htok
  unfold G; simp only [bigSep_sep']
  iframe

/-- A device's counters at zero and its round states give its cells' invariants. -/
theorem alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (ringRd m) κ (kcell c k)))
          ∗ (bigSep Finset.univ fun k : Fin 17 => reached ER (kcell c k) 0) ∗ (bigSep Finset.univ fun k : Fin 17 => atPos ER (kcell c k) 0 ∅ 0)
          ∗ ownToks c ∗ loadSems c) := by
  have hi : iprop((bigSep Finset.univ fun k : Fin 17 => semVal (kcell c k) 0) ∗ bigSep Finset.univ fun k : Fin 17 => roundState ER (ringRd m) (kcell c k) 0)
      ⊢ (|={Set.univ}=> bigSep Finset.univ fun k => iprop(∃ κ : ℕ, cellInv ER (ringRd m) κ (kcell c k)) : sProp 𝕄) := by
    rw [← bigSep_sep']
    exact (bigSep_mono fun k _ => (Rounds.body_intro ER (ringRd m) (kcell c k)).trans inv_alloc).trans (bigSep_fupd _ _)
  rw [bar_sem]
  unfold G
  iintro ⟨Hos, HB, Hst, Hr, Hat, Htok⟩
  ihave Hos := (own_sems (F := F) c).1 $$ Hos
  icases Hos with ⟨HS, HR, HL⟩
  ihave Hv := (all_cells fun k : Fin 17 => (semVal (kcell c k) 0 : sProp 𝕄)).2 $$ [HB HS HR]
  · iframe
  imod hi $$ [Hv Hst] with Hinv
  · iframe
  imodintro
  iframe

theorem ghost_intro (K : Dev nD × Fin 17 → ℕ) (c : Dev nD) :
    iprop(records m K ∗ (bigSep Finset.univ fun k : Fin 17 => atPos ER (kcell c k) 0 ∅ 0) ∗ payToks c ∗ loadSems c) ⊢ G' m c := by
  unfold payToks G' ghost preP
  simp only [bigSep_sep']
  iintro ⟨#HR, Hat, ⟨Ht, Hf, Hs, Hr⟩, HL⟩
  ihave Hat := (all_cells fun k : Fin 17 => (atPos ER (kcell c k) 0 ∅ 0 : sProp 𝕄)).1 $$ Hat
  icases Hat with ⟨AB, AS, AR⟩
  iframe
  iexists K
  iframe
  iexact HR

theorem with_records {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (ringRd m) κ (kcell c k)))
          ∗ (bigSep Finset.univ fun k : Fin 17 => reached ER (kcell c k) 0) ∗ (bigSep Finset.univ fun k : Fin 17 => atPos ER (kcell c k) 0 ∅ 0)
          ∗ ownToks c ∗ loadSems c) : sProp 𝕄)
      ⊢ bigSep Finset.univ (G' m) := by
  rw [bigSep_sep', bigSep_sep', bigSep_sep', bigSep_sep', ← bigSep_univ_prod (fun ck : Dev nD × Fin 17 => iprop(∃ κ : ℕ, cellInv ER (ringRd m) κ (kcell ck.1 ck.2))),
    ← bigSep_univ_prod (fun ck : Dev nD × Fin 17 => (reached ER (kcell ck.1 ck.2) 0 : sProp 𝕄))]
  iintro ⟨HI, #HR, Hat, Htok, HL⟩
  ihave HK := (BI.bigSep_exists_pi Finset.univ (fun (ck : Dev nD × Fin 17) (κ : ℕ) => (cellInv ER (ringRd m) κ (kcell ck.1 ck.2) : sProp 𝕄))) $$ HI
  icases HK with ⟨%K, #HI⟩
  ihave Htk := (toks_around (F := F)) $$ Htok
  iapply (with_records (R := records m K) fun c _ => ghost_intro m K c)
  isplitr
  · unfold records; isplitl; · iexact HI
    iexact HR
  · simp only [bigSep_sep']
    iframe

/-- The global step. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => alloc m c).trans (bigSep_fupd _ _)).trans (BI.fupd_mono (regroup m))

/-! ## What the devices owe each other at the launch -/

theorem kcell_iff {a b : Dev nD} {k l : Fin 17} : kcell a k = kcell b l ↔ a = b ∧ k = l :=
  ⟨fun h => by have := cellAt_injective (a₁ := (a, k)) (a₂ := (b, l)) h; exact ⟨congrArg Prod.fst this, congrArg Prod.snd this⟩, fun ⟨h, h'⟩ => by rw [h, h']⟩

theorem rcv_iff {k l : Fin 8} : rcv k = rcv l ↔ k = l := by revert k l; decide

/-- Each copy in the list owes its receiver its credit once. -/
theorem owesR_rcv (d c : Dev nD) (k : Fin 8) (l : List (Fin 8)) (hl : l.Nodup) :
    owesR d l (kcell c (rcv k)) () = if k ∈ l ∧ d = (dstE k).symm c then cpy k else 0 := by
  induction l with
  | nil => rfl
  | cons j l ih =>
    have hj := (List.nodup_cons.mp hl).1
    show owesR d l (kcell c (rcv k)) () + tallyAt (kcell (dstE j d) (rcv j)) () (cpy j) (kcell c (rcv k)) () = _
    rw [ih (List.nodup_cons.mp hl).2, tallyAt_apply]
    by_cases hkj : k = j
    · subst hkj
      rw [if_neg (fun h => hj h.1), Nat.zero_add]
      by_cases hd : d = (dstE k).symm c
      · rw [if_pos ⟨kcell_iff.mpr ⟨by rw [hd, Equiv.apply_symm_apply], rfl⟩, rfl⟩, if_pos ⟨List.mem_cons_self, hd⟩]
      · rw [if_neg (fun h => hd (by rw [(kcell_iff.mp h.1).1, Equiv.symm_apply_apply])), if_neg (fun h => hd h.2)]
    · rw [if_neg (fun h : kcell c (rcv k) = kcell (dstE j d) (rcv j) ∧ () = () => hkj (rcv_iff.mp (kcell_iff.mp h.1).2)), Nat.add_zero]
      simp [hkj]

theorem owesR_bar (d c : Dev nD) (l : List (Fin 8)) : owesR d l (kcell c 0) () = 0 := by
  induction l with
  | nil => rfl
  | cons j l ih =>
    show owesR d l (kcell c 0) () + tallyAt (kcell (dstE j d) (rcv j)) () (cpy j) (kcell c 0) () = _
    rw [ih, tallyAt_apply, if_neg (fun h => rcv_ne j (kcell_iff.mp h.1).2.symm)]

theorem mem_sent (k : Fin 8) : k ∈ sent := by revert k; decide

theorem owed_bar (d c : Dev nD) : O₀ d (kcell c 0) () = (if d = prv c then 1 else 0) + (if d = nxt c then 1 else 0) := by
  show owesR d sent (kcell c 0) () + tallyAt (kcell (nxt d) 0) () 1 (kcell c 0) () + tallyAt (kcell (prv d) 0) () 1 (kcell c 0) () = _
  rw [owesR_bar, Nat.zero_add, tallyAt_apply, tallyAt_apply]
  congr 1
  · refine if_congr ⟨fun h => ?_, fun h => ⟨?_, rfl⟩⟩ rfl rfl
    · rw [(kcell_iff.mp h.1).1, prv_nxt]
    · rw [h, nxt_prv]
  · refine if_congr ⟨fun h => ?_, fun h => ⟨?_, rfl⟩⟩ rfl rfl
    · rw [(kcell_iff.mp h.1).1, nxt_prv]
    · rw [h, prv_nxt]

theorem owed_rcv (d c : Dev nD) (k : Fin 8) : O₀ d (kcell c (rcv k)) () = if d = (dstE k).symm c then cpy k else 0 := by
  show owesR d sent (kcell c (rcv k)) () + tallyAt (kcell (nxt d) 0) () 1 (kcell c (rcv k)) () + tallyAt (kcell (prv d) 0) () 1 (kcell c (rcv k)) () = _
  rw [owesR_rcv d c k sent (by decide), tallyAt_apply, tallyAt_apply,
    if_neg (fun h : kcell c (rcv k) = kcell (nxt d) 0 ∧ () = () => rcv_ne k (kcell_iff.mp h.1).2),
    if_neg (fun h : kcell c (rcv k) = kcell (prv d) 0 ∧ () = () => rcv_ne k (kcell_iff.mp h.1).2), Nat.add_zero]
  exact if_congr ⟨fun h => h.2, fun h => ⟨mem_sent k, h⟩⟩ rfl rfl

theorem launch_bar (c : Dev nD) :
    tallyOn (kcell c 0) (launchCredit (Pipeline.owing O₀) 0 (kcell c 0)) = (tallyAt (kcell c 0) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (prv c) fun _ => 1, Finset.sum_ite_eq' Finset.univ (nxt c) fun _ => 1, if_pos (Finset.mem_univ _), if_pos (Finset.mem_univ _)]

theorem launch_rcv (c : Dev nD) (k : Fin 8) :
    tallyOn (kcell c (rcv k)) (launchCredit (Pipeline.owing O₀) 0 (kcell c (rcv k))) = (tallyAt (kcell c (rcv k)) () (cpy k) : CellTallies nD τ sig Unit) := by
  unfold tallyAt; refine congrArg _ (Finsupp.ext fun u => ?_); cases u
  rw [Pipeline.launchCredit_owing, Finsupp.single_eq_same, Finset.sum_congr rfl fun d _ => owed_rcv d c k, Finset.sum_ite_eq' Finset.univ ((dstE k).symm c) fun _ => cpy k,
    if_pos (Finset.mem_univ _)]

/-- A device's launch credit: two units of its barrier, and every copy it will receive. -/
theorem creds (c : Dev nD) :
    (Pipeline.launchCred O₀ c : sProp 𝕄) ⊢ iprop(cred (tallyAt (kcell c 0) () 2) ∗ bigSep Finset.univ fun k : Fin 8 => cred (tallyAt (kcell c (rcv k)) () (cpy k))) := by
  have h : (Pipeline.launchCred O₀ c : sProp 𝕄)
      ⊢ bigSep Finset.univ fun k : Fin 17 => cred (tallyOn (kcell c k) (launchCredit (Pipeline.owing O₀) 0 (kcell c k))) := by
    unfold Pipeline.launchCred
    refine (BI.bigSep_subset (Finset.subset_univ (Finset.univ.map ⟨csem, csem_injective⟩))).trans ?_
    rw [bigSep_map]; exact Entails.refl _
  refine h.trans ((all_cells _).1.trans ?_)
  rw [launch_bar]
  simp only [launch_rcv]
  iintro ⟨HB, -, HR⟩
  iframe

/-! ## The launch theorem's conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop((start m c ∗ loadSems c) ∗ emp) := by
  have hE : Pipeline.unscopedRestP Pipeline.Prefetch.none cfg0.spec c (fun b => m ((c : Thread nD τ).loc b)) ⊢ (whole c main_arg3 (ewB m c) : sProp 𝕄) := by
    rw [Pipeline.unscopedRestP_none, unscopedRest0_eq]; exact Entails.refl _
  unfold start G'
  iintro ⟨HE, Hlev, Hcr, -, HG, HL⟩
  ihave Hc := (creds (F := F) c) $$ Hcr
  ihave HE := hE $$ HE
  icases Hc with ⟨H1, HN⟩
  imodintro
  iframe

theorem phi0_intro (c : Dev nD) :
    iprop((start m c ∗ loadSems c) ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ loadSems scratch whole
  iintro ⟨⟨Hs, H0, H1⟩, -, Hr⟩
  iframe

theorem phi1_exit (c : Dev nD) :
    (dats m 0 c).Φ (Fin.last cfg0.N) ⊢ iprop((unscopedSems0 c ∗ whole c main_arg3 (ewB m c)) ∗ Pipeline.ownSems0 osem c ∗ Pipeline.scopedRest cfg0.spec c) := by
  rw [show (dats m 0 c).Φ (Fin.last cfg0.N) = Φ₁ m c from rfl, scopedRest0_eq, bar_sem]
  unfold Φ₁ scratch whole
  iintro ⟨HE, Hr, H0, H1, HB, HS, HR⟩
  ihave Ho := (own_sems (F := F) c).2 $$ [HS HR H0 H1]
  · unfold loadSems; iframe
  iframe

theorem waits (c : Dev nD) : (levAts L lv : sProp 𝕄) ⊢ Pipeline.cellsWaits cfgs (dats m) () 0 c :=
  Pipeline.cellsWaits_intro cfgs (dats m) () 0 c fun w s t => by
    rcases t with ⟨_ | _, ht⟩
    · exact mayWait_start c _ (by fin_cases w <;> fin_cases s <;> exact Nat.le_of_eq rfl)
    · show _ ⊢ MayWait _ _ _ 0
      rw [MayWait_zero]; iintro -; iempintro

/-! ## The run -/

/-- Every run ends with each window's array at what the proof's data say, the experts unchanged, every semaphore at zero. -/
def QC : PUnit × MemSt nD τ sig (Elt F) → Prop := fun r =>
  (∀ c : Dev nD, (∀ w : Fin cfg0.W, r.2.mem ((cfg0.win w).arr.view.loc (c : Thread nD τ)) = (dats m 0 c).arrAt w cfg0.N)
    ∧ r.2.mem ((c : Thread nD τ).loc main_arg3) = m ((c : Thread nD τ).loc main_arg3)) ∧ r.2.sem = fun _ => 0

set_option maxRecDepth 8000 in
theorem run_main : θ_run defs (onTc (τ := τ) (main (F := F))) ⟨m, fun _ => 0, ρ⟩ (QC m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := obligation m) (hne := fun w => by fin_cases w <;> exact Nat.succ_pos _) (harr := arr_whole0) (hstage := stage_whole0) (hshare := share_full m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      ihave HX := (own_pair_emb embR _ _) $$ HX
      icases HX with ⟨HX, -⟩
      imod (deal m) $$ HX with HG
      imodintro
      isplitl [HP] <;> iassumption)
    (hglob := glob m)
    (hA := fun _ _ => rfl) (hpf := fun _ k => k.elim0)
    (X := fun c => iprop(start m c ∗ loadSems c)) (Y := fun c => iprop(unscopedSems0 c ∗ whole c main_arg3 (ewB m c))) (Z := fun _ => iprop(emp))
    (hX := start_intro m ρ) (hin := phi0_intro m) (hout := phi1_exit m)
    (QY := fun c s => (∀ sm : SemLoc sig, sm.isScoped .tc = false → s.sem ((c.tc : Thread nD τ), sm) = 0)
      ∧ s.mem ((c : Thread nD τ).loc main_arg3) = m ((c : Thread nD τ).loc main_arg3))
    (hY := fun c s' => by
      iintro ⟨⟨Hu, HE⟩, -, HSI⟩
      imod (Pipeline.unscopedSems0_read (X := unscopedSems0 c) (c := c) fupd_intro s') $$ [Hu HSI] with ⟨%h1, HSI⟩
      · isplitl [Hu] <;> iassumption
      ihave %h2 := (show iprop(whole c main_arg3 (ewB m c) ∗ SI s') ⊢ (⌜s'.mem.mem ((c : Thread nD τ).loc main_arg3) = m ((c : Thread nD τ).loc main_arg3)⌝ : sProp 𝕄) from by
        iintro ⟨HE, HSI⟩
        icombine HSI HE gives %h
        ipureintro; exact funext fun i => h i (Finset.mem_univ i)) $$ [HE HSI]
      · isplitl [HE] <;> iassumption
      imodintro
      isplitr; · ipureintro; exact ⟨h1, h2⟩
      iexact HSI)
    (hQ := fun _ h hs => ⟨fun c => ⟨fun w => (h c).1 w, (h c).2.2.2⟩, sem_eq_zero hs fun c => (h c).2.2.1⟩)

end Cert.ExpertProof
-- ==== Proof.Frames.lean ====
/-
The frames: the kernel, over words and over the extended reals, and the reference all run to the end, leave their
arguments alone and leave every semaphore at zero.
-/
module

public import proofs.«01_k».proof.Defs
public import proofs.«01_k».proof.Proof.Launch
public import proofs.«01_k».proof.Proof.Gen.Kernel
public import proofs.«01_k».proof.Proof.Gen.ReferenceIdeal.Run
public import Idealize.ShloMosaic.Lib.Quiescent

@[expose] public section

set_option maxRecDepth 16384

noncomputable section

namespace Cert.ExpertProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- What the run says of the arguments: each is as it was. -/
theorem args_kept {F : FTy → Type} [FloatOps F] (m : (ℓ : Loc nD τ sig) → Buf (Elt F) ℓ)
    {r : PUnit × MemSt nD τ sig (Elt F)} (h : QC m r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨((h.1 c).1 0).trans ((dats m 0 c).arrAt_in 0 rfl _), ((h.1 c).1 1).trans ((dats m 0 c).arrAt_in 1 rfl _),
    ((h.1 c).1 2).trans ((dats m 0 c).arrAt_in 2 rfl _), (h.1 c).2, ((h.1 c).1 3).trans ((dats m 0 c).arrAt_in 3 rfl _)⟩

/-- The kernel as printed and the kernel read over the extended reals have one table of bodies. -/
theorem defs_same {F : FTy → Type} [FloatOps F] :
    @Cert.Kernel.defs F _ Cert.Kernel.Gen.facts = @Cert.KernelIdeal.defs F _ Cert.KernelIdeal.Gen.facts := by
  have h : @Cert.Kernel.defs₀ F _ Cert.Kernel.Gen.facts = @Cert.KernelIdeal.defs₀ F _ Cert.KernelIdeal.Gen.facts := by
    unfold Cert.Kernel.defs₀ Cert.KernelIdeal.defs₀
    refine congrArg Defs.onTc ?_
    funext l a
    match l, a with
    | 0, (t, s) => rfl
  exact congrArg (Pipeline.defs (Cert.KernelIdeal.pcfgs (F := F))) h

/-- The kernel over words runs, its arguments and semaphores as they were. -/
theorem frame_kernel : Cert.quiescent_Kernel (hKernel := Cert.Kernel.Gen.facts) := fun m ρ _ => by
  rw [defs_same]
  exact (θ_run Cert.KernelIdeal.defs _ _).mono (fun _ h => ⟨args_kept (F := Bits) m h, h.2⟩) (run_main (F := Bits) m ρ)

/-- The kernel over the extended reals likewise. -/
theorem frame_kernelIdeal : Cert.quiescent_KernelIdeal (hKernelIdeal := Cert.KernelIdeal.Gen.facts) := fun m ρ _ =>
  (θ_run Cert.KernelIdeal.defs _ _).mono (fun _ h => ⟨args_kept (F := Ideal) m h, h.2⟩) (run_main (F := Ideal) m ρ)

/-- The reference, which has no semaphore, likewise. -/
theorem frame_reference : Cert.quiescent_ReferenceIdeal (hReferenceIdeal := Cert.ReferenceIdeal.Gen.facts) := fun m ρ _ =>
  (θ_run Cert.ReferenceIdeal.defs _ _).mono
    (fun r h => ⟨fun c => (h c).2, sem_eq_zero_of_no_sems (by decide) r.2⟩) (Cert.ReferenceIdeal.Value.run (F := Ideal) m ρ)

end Cert.ExpertProof

end
-- ==== Proof.Spec.lean ====
/-
The formula at one token: its scores, its experts' probabilities, and the two algebraic facts on which kernel and reference
meet, a probability taken out of a sum and one expert found among thirty-two.
-/
module

public import Idealize.ShloMosaic.Lib.Pointwise

@[expose] public section

noncomputable section

namespace Cert.ExpertSpec

open Idealize.ShloMosaic
open scoped BigOperators

/-! ## The router's probabilities at one token -/

variable (x : Fin 512 → EReal) (W : (⟨2, ![512, 32]⟩ : Shape).Idx → EReal)

/-- A token's score of expert `e`, -/
def score (e : Fin 32) : EReal := ∑ k : Fin 512, x k * W (ix2 k e)
/-- its greatest score, -/
def top : EReal := Finset.univ.fold max (Ideal.ofBits .f32 0xFF800000#32) (score x W)
/-- and its probability of expert `e`. -/
def prob (e : Fin 32) : EReal :=
  Ideal.div (Ideal.exp (score x W e - top x W)) (∑ e' : Fin 32, Ideal.exp (score x W e' - top x W))

/-- The value `-∞` starts the maximum. -/
theorem ofBits_bot : Ideal.ofBits .f32 0xFF800000#32 = ⊥ := by simp [Ideal.ofBits, Ideal.ieee]

/-- A finite sum of reals is a real. -/
theorem coe_sum {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- The greatest of nonempty reals is a real. -/
theorem fold_max_coe {ι : Type} (s : Finset ι) (f : ι → ℝ) (hs : s.Nonempty) : ∃ μ : ℝ, s.fold max (⊥ : EReal) (fun i => (f i : EReal)) = (μ : EReal) := by
  classical
  induction hs using Finset.Nonempty.cons_induction with
  | singleton a => exact ⟨f a, by simp⟩
  | cons a s ha _ ih =>
    obtain ⟨μ, h⟩ := ih
    exact ⟨max (f a) μ, by rw [Finset.fold_cons, h]; exact (EReal.coe_strictMono.monotone.map_max).symm⟩

/-- Of a finite token and finite router weights every score is a real, -/
theorem score_coe (hx : ∀ k, x k ≠ ⊥ ∧ x k ≠ ⊤) (hW : ∀ i, W i ≠ ⊥ ∧ W i ≠ ⊤) : ∃ σ : Fin 32 → ℝ, ∀ e, score x W e = (σ e : EReal) := by
  refine ⟨fun e => ∑ k : Fin 512, (x k).toReal * (W (ix2 k e)).toReal, fun e => ?_⟩
  rw [← coe_sum]
  refine Finset.sum_congr rfl fun k _ => ?_
  rw [EReal.coe_mul, EReal.coe_toReal (hx k).2 (hx k).1, EReal.coe_toReal (hW _).2 (hW _).1]

/-- and so is every probability, none of them negative. -/
theorem prob_coe (hx : ∀ k, x k ≠ ⊥ ∧ x k ≠ ⊤) (hW : ∀ i, W i ≠ ⊥ ∧ W i ≠ ⊤) (e : Fin 32) :
    ∃ p : ℝ, 0 ≤ p ∧ prob x W e = (p : EReal) := by
  obtain ⟨σ, hσ⟩ := score_coe x W hx hW
  have hs : score x W = fun e => (σ e : EReal) := funext hσ
  obtain ⟨μ, hμ⟩ := fold_max_coe Finset.univ σ ⟨e, Finset.mem_univ e⟩
  have ht : top x W = (μ : EReal) := by unfold top; rw [ofBits_bot, hs, hμ]
  have he : ∀ e, Ideal.exp (score x W e - top x W) = ((Real.exp (σ e - μ) : ℝ) : EReal) := fun e => by
    rw [hσ, ht, ← EReal.coe_sub]; rfl
  have hpos : 0 < ∑ e' : Fin 32, Real.exp (σ e' - μ) := Finset.sum_pos (fun _ _ => Real.exp_pos _) ⟨e, Finset.mem_univ e⟩
  refine ⟨Real.exp (σ e - μ) * (1 / ∑ e' : Fin 32, Real.exp (σ e' - μ)), by positivity, ?_⟩
  unfold prob
  rw [he, Finset.sum_congr rfl fun e' _ => he e', coe_sum, Ideal.div_coe hpos.ne', EReal.coe_mul]

/-! ## The two facts -/

/-- A real that is not negative comes out of a sum. -/
theorem mul_sum_coe {ι : Type} (s : Finset ι) (f : ι → EReal) (p : ℝ) (hp : 0 ≤ p) : (p : EReal) * ∑ i ∈ s, f i = ∑ i ∈ s, (p : EReal) * f i := by
  classical
  induction s using Finset.induction_on with
  | empty => simp
  | insert a s ha ih =>
    rw [Finset.sum_insert ha, Finset.sum_insert ha, EReal.left_distrib_of_nonneg_of_ne_top (EReal.coe_nonneg.mpr hp) (EReal.coe_ne_top p), ih]

/-- A row scaled by a probability times a column is the probability times their product. -/
theorem scaled {ι : Type} (s : Finset ι) (f g : ι → EReal) (p : ℝ) (hp : 0 ≤ p) :
    ∑ i ∈ s, f i * (p : EReal) * g i = (p : EReal) * ∑ i ∈ s, f i * g i := by
  rw [mul_sum_coe s _ p hp]
  refine Finset.sum_congr rfl fun i _ => ?_
  rw [mul_comm (f i), mul_assoc]

/-- Of thirty-two terms, eight to a device, that vanish but at expert `e`, the sum is the term at `e`. -/
theorem found (e : Fin 32) (t : Fin 4 → Fin 8 → EReal) :
    ∑ d : Fin 4, ∑ j : Fin 8, (if e.val = 8 * d.val + j.val then t d j else 0)
      = t ⟨e.val / 8, by omega⟩ ⟨e.val % 8, by omega⟩ := by
  rw [Finset.sum_eq_single (⟨e.val / 8, by omega⟩ : Fin 4), Finset.sum_eq_single (⟨e.val % 8, by omega⟩ : Fin 8)]
  · exact if_pos (by simp only []; omega)
  · intro j _ hj
    refine if_neg fun h => hj (Fin.ext ?_)
    simp only [] at h ⊢
    omega
  · intro h; exact absurd (Finset.mem_univ _) h
  · intro d _ hd
    refine Finset.sum_eq_zero fun j _ => if_neg fun h => hd (Fin.ext ?_)
    simp only []
    omega
  · intro h; exact absurd (Finset.mem_univ _) h

end Cert.ExpertSpec

end
-- ==== Proof.KernelValue.lean ====
/-
The kernel over the extended reals, read element by element.
-/
module

public import proofs.«01_k».proof.Proof.Rows
public import Idealize.ShloMosaic.Lib.Pointwise
public import proofs.«01_k».proof.Proof.Spec

@[expose] public section

set_option maxRecDepth 16384

noncomputable section

namespace Cert.ExpertProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.ExpertSpec
open scoped BigOperators

/-! ## One expert's term -/

/-- A chosen word is the `if` of its condition. -/
theorem select_eq (x y : BitVec 32) (a b : EReal) : Scalar.select (IntOp.cmpi .eq x y) a b = if x = y then a else b := by
  by_cases h : x = y
  · subst h; simp [IntOp.cmpi, Scalar.select]
  · have : (x == y) = false := by simpa using h
    have hc : IntOp.cmpi .eq x y = 0#1 := by show BitVec.ofBool (x == y) = _; rw [this]; rfl
    rw [if_neg h, hc]
    rfl

/-- What an expert whose number is the word `n` adds to a token's result: nothing to a token of another expert. -/
def term (x : Fin 512 → EReal) (p : EReal) (e n : BitVec 32) (w : Fin 512 → EReal) : EReal :=
  if e = n then ∑ k : Fin 512, x k * p * w k else 0

theorem exAdd_apply (v j : BitVec 32) (x : FVec Ideal S512x512 .bf16) (ix : IVec S512x1 32) (p : Vec Ideal S512x1 .f32)
    (acc : FVec Ideal S512x1024 .f32) (w : Vec Ideal S1x512x1024 .bf16) (a : Fin 512) (b : Fin 1024) :
    exAdd v j x ix p acc w (ix2 a b)
      = acc (ix2 a b) + term (fun k => x (ix2 a k)) (p (ix2 a (0 : Fin 1))) (ix (ix2 a (0 : Fin 1))) (v * 8#32 + j) (fun k => w (ix3 (0 : Fin 1) k b)) := by
  pointwise [exAdd]
  refine congrArg _ ?_
  simp only [select_eq]
  unfold term
  by_cases h : ix (ix2 a (0 : Fin 1)) = v * 8#32 + j
  · rw [if_pos h]
    exact Finset.sum_congr rfl fun k _ => if_pos h
  · rw [if_neg h]
    exact Finset.sum_eq_zero fun k _ => if_neg h

/-- Four experts' terms, -/
theorem step4_apply (v : BitVec 32) (j : Fin 4 → BitVec 32) (x : FVec Ideal S512x512 .bf16) (ix : IVec S512x1 32) (p : Vec Ideal S512x1 .f32)
    (w : Fin 4 → Vec Ideal S1x512x1024 .bf16) (o : FVec Ideal S512x1024 .bf16) (a : Fin 512) (b : Fin 1024) :
    step4 v j x ix p w o (ix2 a b)
      = o (ix2 a b) + ∑ i : Fin 4, term (fun k => x (ix2 a k)) (p (ix2 a (0 : Fin 1))) (ix (ix2 a (0 : Fin 1))) (v * 8#32 + j i) (fun k => w i (ix3 (0 : Fin 1) k b)) := by
  unfold step4
  rw [shapeCast_self, shapeCast_self, shapeCast_self]
  show exAdd _ _ _ _ _ (exAdd _ _ _ _ _ (exAdd _ _ _ _ _ (exAdd _ _ _ _ _ (extf .f32 o bitsLt_bf16_f32 : FVec Ideal S512x1024 .f32) _) _) _) _ (ix2 a b) = _
  simp only [exAdd_apply, Fin.sum_univ_four, add_assoc]
  rfl

/-- and eight. -/
theorem step8_apply (v : BitVec 32) (x : FVec Ideal S512x512 .bf16) (ix : IVec S512x1 32) (p : Vec Ideal S512x1 .f32)
    (w : Fin 8 → Vec Ideal S1x512x1024 .bf16) (o : FVec Ideal S512x1024 .bf16) (a : Fin 512) (b : Fin 1024) :
    step8 v x ix p w o (ix2 a b)
      = o (ix2 a b) + ∑ i : Fin 8, term (fun k => x (ix2 a k)) (p (ix2 a (0 : Fin 1))) (ix (ix2 a (0 : Fin 1))) (v * 8#32 + BitVec.ofNat 32 i.val) (fun k => w i (ix3 (0 : Fin 1) k b)) := by
  unfold step8
  rw [shapeCast_self, shapeCast_self, shapeCast_self]
  show exAdd _ _ _ _ _ (exAdd _ _ _ _ _ (exAdd _ _ _ _ _ (exAdd _ _ _ _ _ (exAdd _ _ _ _ _ (exAdd _ _ _ _ _ (exAdd _ _ _ _ _ (exAdd _ _ _ _ _ (extf .f32 o bitsLt_bf16_f32 : FVec Ideal S512x1024 .f32) _) _) _) _) _) _) _) _ (ix2 a b) = _
  simp only [exAdd_apply, Fin.sum_univ_eight, add_assoc]
  rfl

/-! ## The rows a trip reads -/

theorem rdX_ix2 (k : Fin 4) (f : FVec Ideal S2048x512 .bf16) (a : Fin 512) (b : Fin 512) : rdX k f (ix2 a b) = f (ix2 (row k a) b) :=
  (rdX_apply k f (ix2 a b)).trans (congrArg f (ix2_eq_valueIdx (row k a) b).symm)
theorem rdI_ix2 (k : Fin 4) (f : IVec S2048x1 32) (a : Fin 512) (b : Fin 1) : rdI (F := Ideal) k f (ix2 a b) = f (ix2 (row k a) b) :=
  (rdI_apply k f (ix2 a b)).trans (congrArg f (ix2_eq_valueIdx (row k a) b).symm)
theorem rdP_ix2 (k : Fin 4) (f : FVec Ideal S2048x1 .f32) (a : Fin 512) (b : Fin 1) : rdP k f (ix2 a b) = f (ix2 (row k a) b) :=
  (rdP_apply k f (ix2 a b)).trans (congrArg f (ix2_eq_valueIdx (row k a) b).symm)
theorem rdO_ix2 (k : Fin 4) (f : FVec Ideal S2048x1024 .bf16) (a : Fin 512) (b : Fin 1024) : rdO k f (ix2 a b) = f (ix2 (row k a) b) :=
  (rdO_apply k f (ix2 a b)).trans (congrArg f (ix2_eq_valueIdx (row k a) b).symm)
theorem rowsLoop_ix2 (f : Fin 4 → Vec Ideal S512x1024 .bf16 → FVec Ideal S512x1024 .bf16) (o : FVec Ideal S2048x1024 .bf16) (k : Fin 4) (a : Fin 512) (b : Fin 1024) :
    rowsLoop f 4 o (ix2 (row k a) b) = f k (rdO k o) (ix2 a b) := by
  rw [ix2_eq_valueIdx, ix2_eq_valueIdx, rowsLoop_apply, if_pos k.isLt]

/-- An expert read of a slot, and one of the device's own. -/
theorem rdG_ix3 (s : Fin 3) (j : Fin 8) (g : FVec Ideal S3x8x512x1024 .bf16) (k : Fin 512) (b : Fin 1024) :
    rdG s j g (ix3 (0 : Fin 1) k b) = g (ValueIdx.ix4 s j k b) := by
  refine congrArg g ((slotM_emb s _).trans ?_)
  funext d
  fin_cases d
  · rfl
  · exact Fin.ext (show j.val + 1 * 0 = j.val by omega)
  · exact Fin.ext (show 0 + 1 * k.val = k.val by omega)
  · exact Fin.ext (show 0 + 1 * b.val = b.val by omega)
theorem rdW_ix3 (j : Fin 8) (g : FVec Ideal S8x512x1024 .bf16) (k : Fin 512) (b : Fin 1024) :
    rdW j g (ix3 (0 : Fin 1) k b) = g (ix3 j k b) := by
  refine congrArg g ?_
  funext d
  fin_cases d
  · exact Fin.ext (show j.val + 1 * 0 = j.val by omega)
  · exact Fin.ext (show 0 + 1 * k.val = k.val by omega)
  · exact Fin.ext (show 0 + 1 * b.val = b.val by omega)

/-! ## The probabilities and the shared product -/

/-- The probability of a token's expert. -/
theorem prB_apply (xf : FVec Ideal S2048x512 .bf16) (rf : FVec Ideal S512x32 .bf16) (jf : IVec S2048x1 32) (r : Fin 2048) (e : Fin 32)
    (he : jf (ix2 r (0 : Fin 1)) = BitVec.ofNat 32 e.val) :
    prB xf rf jf (ix2 r (0 : Fin 1)) = prob (fun k => xf (ix2 r k)) rf e := by
  pointwise [prB, k0_pay46]
  rw [he, Finset.sum_eq_single e]
  · rw [select_eq, if_pos rfl]
    rfl
  · intro e' _ hne
    rw [select_eq, if_neg]
    intro h
    have := congrArg BitVec.toNat h
    rw [BitVec.toNat_ofNat, BitVec.toNat_ofNat] at this
    exact hne (Fin.ext (by omega))
  · intro h; exact absurd (Finset.mem_univ _) h

/-- The shared product of 512 rows. -/
theorem putShared_apply (sf : FVec Ideal S512x1024 .bf16) (xf : FVec Ideal S2048x512 .bf16) (k : Fin 4) (o : Vec Ideal S512x1024 .bf16) (a : Fin 512) (b : Fin 1024) :
    putShared sf xf k o (ix2 a b) = ∑ l : Fin 512, xf (ix2 (row k a) l) * sf (ix2 l b) := by
  have h (x : FVec Ideal S512x512 .bf16) : k0_pay48 (k0_pay47 sf) x (ix2 a b) = ∑ l : Fin 512, x (ix2 a l) * sf (ix2 l b) := by
    pointwise [k0_pay47, k0_pay48]
  refine (h _).trans (Finset.sum_congr rfl fun l _ => ?_)
  rw [rdX_ix2]

/-! ## The loops -/

variable (m : (ℓ : Loc nD τ sig) → Buf (Elt Ideal) ℓ)

section Loops

variable (xf : FVec Ideal S2048x512 .bf16) (jf : IVec S2048x1 32) (pf : FVec Ideal S2048x1 .f32) (c : Dev nD) (k : Fin 4) (a : Fin 512) (b : Fin 1024)

/-- What expert `j` of device `d` adds to a row, by a trip that names the device by the word `v`. -/
def part (v : BitVec 32) (d : Dev nD) (j : Fin 8) : EReal :=
  term (fun l => xf (ix2 (row k a) l)) (pf (ix2 (row k a) (0 : Fin 1))) (jf (ix2 (row k a) (0 : Fin 1))) (v * 8#32 + BitVec.ofNat 32 j.val) (fun l => ewB m d (ix3 j l b))

theorem addOwn_apply (v : BitVec 32) (o : FVec Ideal S2048x1024 .bf16) :
    rowsLoop (addOwn v xf jf pf (ownB m c)) 4 o (ix2 (row k a) b) = o (ix2 (row k a) b) + ∑ j : Fin 8, part m xf jf pf k a b v c j := by
  rw [rowsLoop_ix2]
  unfold addOwn
  rw [step8_apply, rdO_ix2]
  refine congrArg _ (Finset.sum_congr rfl fun j _ => ?_)
  unfold part
  rw [rdI_ix2, rdP_ix2]
  have hw : (![rdW 0 (ownB m c), rdW 1 (ownB m c), rdW 2 (ownB m c), rdW 3 (ownB m c), rdW 4 (ownB m c), rdW 5 (ownB m c), rdW 6 (ownB m c), rdW 7 (ownB m c)]
      : Fin 8 → Vec Ideal S1x512x1024 .bf16) j = rdW j (ownB m c) := by fin_cases j <;> rfl
  rw [hw]
  simp only [rdX_ix2, rdW_ix3]
  rfl

theorem addFour_apply (s : Fin 3) (v : BitVec 32) (u w : Fin 4) (o : FVec Ideal S2048x1024 .bf16) :
    rowsLoop (addFour s v u w xf jf pf (gB m c)) 4 o (ix2 (row k a) b)
      = o (ix2 (row k a) b) + ∑ i : Fin 4, part m xf jf pf k a b v (srcDev c s) (quad u w i) := by
  rw [rowsLoop_ix2]
  unfold addFour
  rw [step4_apply, rdO_ix2]
  refine congrArg _ (Finset.sum_congr rfl fun i _ => ?_)
  unfold part
  rw [rdI_ix2, rdP_ix2]
  have hw : (![rdG s (quad u w 0) (gB m c), rdG s (quad u w 1) (gB m c), rdG s (quad u w 2) (gB m c), rdG s (quad u w 3) (gB m c)]
      : Fin 4 → Vec Ideal S1x512x1024 .bf16) i = rdG s (quad u w i) (gB m c) := by fin_cases i <;> rfl
  rw [hw]
  simp only [rdX_ix2, rdG_ix3]
  have hg (l : Fin 512) : gB m c (ValueIdx.ix4 s (quad u w i) l b) = ewB m (srcDev c s) (ix3 (quad u w i) l b) :=
    congrArg (ewB m (srcDev c s)) (ix3_eq_valueIdx (quad u w i) l b).symm
  simp only [hg]

end Loops

/-! ## The device numbers -/

/-- The number of a device as a word. -/
def word (d : Dev nD) : BitVec 32 := BitVec.ofNat 32 d.val
theorem w2_eq (c : Dev nD) : w2 c = word c := by revert c; decide
theorem w5_eq (c : Dev nD) : w5 c = word (prv c) := by revert c; decide
theorem w7_eq (c : Dev nD) : w7 c = word (nxt c) := by revert c; decide
theorem w257_eq (c : Dev nD) : w257 c = word (nxt (nxt c)) := by revert c; decide

/-- Thirty-two terms in the kernel's order are all of them. -/
theorem all_parts (t : Dev nD → Fin 8 → EReal) (c : Dev nD) (z : EReal) :
    z + (∑ j : Fin 8, t c j) + (∑ i : Fin 4, t (prv c) (quad 0 1 i)) + (∑ i : Fin 4, t (nxt c) (quad 0 1 i))
      + (∑ i : Fin 4, t (prv c) (quad 2 3 i)) + (∑ i : Fin 4, t (nxt c) (quad 2 3 i))
      + (∑ i : Fin 4, t (nxt (nxt c)) (quad 0 2 i)) + (∑ i : Fin 4, t (nxt (nxt c)) (quad 1 3 i))
      = z + ∑ d : Dev nD, ∑ j : Fin 8, t d j := by
  have h4 (d : Dev nD) : (∑ i : Fin 4, t d (quad 0 1 i)) + (∑ i : Fin 4, t d (quad 2 3 i)) = ∑ j : Fin 8, t d j := by
    rw [Fin.sum_univ_four, Fin.sum_univ_four, Fin.sum_univ_eight]
    show (t d 0 + t d 1 + t d 2 + t d 3) + (t d 4 + t d 5 + t d 6 + t d 7) = _
    abel
  have h4' (d : Dev nD) : (∑ i : Fin 4, t d (quad 0 2 i)) + (∑ i : Fin 4, t d (quad 1 3 i)) = ∑ j : Fin 8, t d j := by
    rw [Fin.sum_univ_four, Fin.sum_univ_four, Fin.sum_univ_eight]
    show (t d 0 + t d 1 + t d 4 + t d 5) + (t d 2 + t d 3 + t d 6 + t d 7) = _
    abel
  have hd (f : Dev nD → EReal) (c : Dev nD) : f c + f (prv c) + f (nxt c) + f (nxt (nxt c)) = ∑ d : Dev nD, f d := by
    rw [show (∑ d : Dev nD, f d) = f 0 + f 1 + f 2 + f 3 from Fin.sum_univ_four f]
    have h : c = 0 ∨ c = 1 ∨ c = 2 ∨ c = 3 := by revert c; decide
    obtain rfl | rfl | rfl | rfl := h
    · show f 0 + f 3 + f 1 + f 2 = _; abel
    · show f 1 + f 0 + f 2 + f 3 = _; abel
    · show f 2 + f 1 + f 3 + f 0 = _; abel
    · show f 3 + f 2 + f 0 + f 1 = _; abel
  rw [← hd (fun d => ∑ j : Fin 8, t d j) c]
  simp only [← h4' (nxt (nxt c))]
  rw [← h4 (prv c), ← h4 (nxt c)]
  abel

/-- A device's result at one element: the shared product, and every expert's term. -/
theorem total_apply (c : Dev nD) (xf : FVec Ideal S2048x512 .bf16) (rf : FVec Ideal S512x32 .bf16) (jf : IVec S2048x1 32) (sf : FVec Ideal S512x1024 .bf16)
    (o : FVec Ideal S2048x1024 .bf16) (k : Fin 4) (a : Fin 512) (b : Fin 1024) :
    total m c xf rf jf sf o (ix2 (row k a) b)
      = (∑ l : Fin 512, xf (ix2 (row k a) l) * sf (ix2 l b)) + ∑ d : Dev nD, ∑ j : Fin 8, part m xf jf (prB xf rf jf) k a b (word d) d j := by
  unfold total
  simp only [addFour_apply, addOwn_apply]
  rw [rowsLoop_ix2, putShared_apply, w2_eq, w5_eq, w7_eq, w257_eq]
  exact all_parts (fun d j => part m xf jf (prB xf rf jf) k a b (word d) d j) c _

/-- A device's result at one element is the formula. -/
theorem total_value (c : Dev nD) (xf : FVec Ideal S2048x512 .bf16) (rf : FVec Ideal S512x32 .bf16) (jf : IVec S2048x1 32) (sf : FVec Ideal S512x1024 .bf16)
    (o : FVec Ideal S2048x1024 .bf16) (hx : ∀ i, xf i ≠ ⊥ ∧ xf i ≠ ⊤) (hr : ∀ i, rf i ≠ ⊥ ∧ rf i ≠ ⊤) (r : Fin 2048) (b : Fin 1024) (e : Fin 32)
    (he : jf (ix2 r (0 : Fin 1)) = BitVec.ofNat 32 e.val) :
    total m c xf rf jf sf o (ix2 r b)
      = (∑ l : Fin 512, xf (ix2 r l) * sf (ix2 l b))
        + prob (fun l => xf (ix2 r l)) rf e * ∑ l : Fin 512, xf (ix2 r l) * ewB m ⟨e.val / 8, by have := e.isLt; show _ < 4; omega⟩ (ix3 (⟨e.val % 8, by omega⟩ : Fin 8) l b) := by
  obtain ⟨k, a, rfl⟩ : ∃ k a, r = row k a := ⟨⟨r.val / 512, by omega⟩, ⟨r.val % 512, by omega⟩, Fin.ext (show r.val = 512 * (r.val / 512) + r.val % 512 by omega)⟩
  rw [total_apply]
  refine congrArg _ ?_
  obtain ⟨p, hp, hpr⟩ := prob_coe (fun l => xf (ix2 (row k a) l)) rf (fun l => hx _) hr e
  rw [hpr, ← scaled _ _ _ p hp]
  refine Eq.trans ?_ (found e fun d j => ∑ l : Fin 512, xf (ix2 (row k a) l) * (p : EReal) * ewB m d (ix3 j l b))
  refine Finset.sum_congr rfl fun d _ => Finset.sum_congr rfl fun j _ => ?_
  unfold part term
  rw [prB_apply _ _ _ _ e he, hpr, he]
  have hw : (BitVec.ofNat 32 e.val = word d * 8#32 + BitVec.ofNat 32 j.val) ↔ e.val = 8 * d.val + j.val := by
    have h : word d * 8#32 + BitVec.ofNat 32 j.val = BitVec.ofNat 32 (8 * d.val + j.val) := by
      have hd : d.val < 4 := d.isLt
      have hj : j.val < 8 := j.isLt
      apply BitVec.eq_of_toNat_eq
      unfold word
      simp only [BitVec.toNat_add, BitVec.toNat_mul, BitVec.toNat_ofNat]
      omega
    rw [h]
    constructor
    · intro h
      have hd : d.val < 4 := d.isLt
      have hj : j.val < 8 := j.isLt
      have := congrArg BitVec.toNat h
      rw [BitVec.toNat_ofNat, BitVec.toNat_ofNat] at this
      omega
    · intro h; rw [h]
  by_cases h : e.val = 8 * d.val + j.val
  · rw [if_pos h, if_pos (hw.mpr h)]
  · rw [if_neg h, if_neg fun h' => h (hw.mp h')]

end Cert.ExpertProof

end
-- ==== Proof.RefValue.lean ====
/-
The reference over the extended reals, read element by element.
-/
module

public import proofs.«01_k».proof.Proof.Spec
public import proofs.«01_k».proof.Proof.Gen.ReferenceIdeal.Run

@[expose] public section

set_option maxRecDepth 16384

noncomputable section

namespace Cert.ExpertRef

open Cert.ReferenceIdeal Cert.ReferenceIdeal.Gen
open Idealize.ShloMosaic Cert.ExpertSpec
open scoped BigOperators

/-! ## The two gathers -/

/-- A small number as a word, read back signed. -/
theorem toInt_small (n : ℕ) (h : n < 8192) : (BitVec.ofNat 32 n).toInt = (n : ℤ) := by
  rw [BitVec.toInt_eq_toNat_cond, BitVec.toNat_ofNat]
  rw [if_pos (by omega)]
  omega

/-- The gather of one entry a row. -/
theorem gather_entry {α : Type} (x : S8192x32.Idx → α) (idx : IVec S8192x2 32) (r : Fin 8192) (e : Fin 32)
    (h0 : idx (ix2 r (0 : Fin 2)) = BitVec.ofNat 32 r.val) (h1 : idx (ix2 r (1 : Fin 2)) = BitVec.ofNat 32 e.val) :
    Host.gather gather_S8192x32_S8192x2_S8192_n_01_n_n_01_1_11 x idx (ix1 r) = x (ix2 r e) := by
  unfold Host.gather
  refine congrArg x (funext fun a => Fin.ext ?_)
  show gather_S8192x32_S8192x2_S8192_n_01_n_n_01_1_11.start (ix1 r) idx a + gather_S8192x32_S8192x2_S8192_n_01_n_n_01_1_11.batchCoord (ix1 r) a
    + gather_S8192x32_S8192x2_S8192_n_01_n_n_01_1_11.offCoord (ix1 r) a = _
  rw [GatherDims.batchCoord_eq_zero _ _ _ List.not_mem_nil, GatherDims.offCoord_eq_zero _ _ _ (by revert a; decide), Nat.add_zero]
  unfold GatherDims.start
  rw [dif_pos (by revert a; decide)]
  match a with
  | ⟨0, _⟩ =>
    have hs : gather_S8192x32_S8192x2_S8192_n_01_n_n_01_1_11.siIdx (ix1 r) ⟨0, by decide⟩ = ix2 r (0 : Fin 2) := by
      funext b
      match b with
      | ⟨0, _⟩ => rfl
      | ⟨1, _⟩ => rfl
    refine (congrArg (fun i => min (idx i).toInt.toNat (8192 - 1)) hs).trans ?_
    show min (idx (ix2 r (0 : Fin 2))).toInt.toNat (8192 - 1) = r.val
    rw [h0, toInt_small _ r.isLt]
    have := r.isLt
    omega
  | ⟨1, _⟩ =>
    have hs : gather_S8192x32_S8192x2_S8192_n_01_n_n_01_1_11.siIdx (ix1 r) ⟨1, by decide⟩ = ix2 r (1 : Fin 2) := by
      funext b
      match b with
      | ⟨0, _⟩ => rfl
      | ⟨1, _⟩ => rfl
    refine (congrArg (fun i => min (idx i).toInt.toNat (32 - 1)) hs).trans ?_
    show min (idx (ix2 r (1 : Fin 2))).toInt.toNat (32 - 1) = e.val
    have := e.isLt
    rw [h1, toInt_small _ (by omega)]
    omega

/-- The gather of one expert's weights a row. -/
theorem gather_expert {α : Type} (x : S32x512x1024.Idx → α) (idx : IVec S8192x1 32) (r : Fin 8192) (k : Fin 512) (b : Fin 1024) (e : Fin 32)
    (h0 : idx (ix2 r (0 : Fin 1)) = BitVec.ofNat 32 e.val) :
    Host.gather gather_S32x512x1024_S8192x1_S8192x512x1024_12_0_n_n_0_1_15121024 x idx (ix3 r k b) = x (ix3 e k b) := by
  unfold Host.gather
  refine congrArg x (funext fun a => Fin.ext ?_)
  show gather_S32x512x1024_S8192x1_S8192x512x1024_12_0_n_n_0_1_15121024.start (ix3 r k b) idx a
    + gather_S32x512x1024_S8192x1_S8192x512x1024_12_0_n_n_0_1_15121024.batchCoord (ix3 r k b) a
    + gather_S32x512x1024_S8192x1_S8192x512x1024_12_0_n_n_0_1_15121024.offCoord (ix3 r k b) a = _
  rw [GatherDims.batchCoord_eq_zero _ _ _ List.not_mem_nil, Nat.add_zero]
  match a with
  | ⟨0, _⟩ =>
    rw [GatherDims.offCoord_eq_zero _ _ _ (by decide +revert), Nat.add_zero]
    unfold GatherDims.start
    rw [dif_pos (by decide +revert)]
    have hs : gather_S32x512x1024_S8192x1_S8192x512x1024_12_0_n_n_0_1_15121024.siIdx (ix3 r k b) ⟨0, by decide⟩ = ix2 r (0 : Fin 1) := by
      funext b
      match b with
      | ⟨0, _⟩ => rfl
      | ⟨1, _⟩ => rfl
    refine (congrArg (fun i => min (idx i).toInt.toNat (32 - 1)) hs).trans ?_
    show min (idx (ix2 r (0 : Fin 1))).toInt.toNat (32 - 1) = e.val
    have := e.isLt
    rw [h0, toInt_small _ (by omega)]
    omega
  | ⟨1, _⟩ =>
    unfold GatherDims.start
    rw [dif_neg (by decide +revert), Nat.zero_add]
    unfold GatherDims.offCoord
    rw [dif_pos (by decide +revert)]
    rfl
  | ⟨2, _⟩ =>
    unfold GatherDims.start
    rw [dif_neg (by decide +revert), Nat.zero_add]
    unfold GatherDims.offCoord
    rw [dif_pos (by decide +revert)]
    rfl

/-! ## The indexes -/

/-- A small number as a word is not below zero. -/
theorem wrap_off (n : ℕ) (h : n < 8192) (a : BitVec 32) : Scalar.select (IntOp.cmpi .slt (BitVec.ofNat 32 n) 0#32) a (BitVec.ofNat 32 n) = BitVec.ofNat 32 n := by
  have hc : IntOp.cmpi .slt (BitVec.ofNat 32 n) 0#32 = 0#1 := by
    show BitVec.ofBool (BitVec.slt _ _) = _
    rw [BitVec.slt_eq_decide, toInt_small n h, decide_eq_false (by simp)]
    rfl
  rw [hc]
  rfl

/-- The row numbers, -/
def rowsI : IVec S8192x1 32 :=
  broadcastInDim S8192x1 ![0] bcast_S8192_S8192x1_0 (select (cmpi .slt (iotaInDim S8192 32 0) (broadcastInDim S8192 ![] bcast_S_S8192 (constantI S_ 32 0#32)))
    (addi (iotaInDim S8192 32 0) (broadcastInDim S8192 ![] bcast_S_S8192 (constantI S_ 32 8192#32))) (iotaInDim S8192 32 0))
/-- and the experts' as the reference reads them, a negative one counted from the end. -/
def wrapI (jf : IVec S8192x1 32) : IVec S8192x1 32 :=
  broadcastInDim S8192x1 ![0] bcast_S8192_S8192x1_0 (select (cmpi .slt (shapeCast _ jf shapeCasts_S8192x1_S8192) (broadcastInDim S8192 ![] bcast_S_S8192 (constantI S_ 32 0#32)))
    (addi (shapeCast _ jf shapeCasts_S8192x1_S8192) (broadcastInDim S8192 ![] bcast_S_S8192 (constantI S_ 32 32#32))) (shapeCast _ jf shapeCasts_S8192x1_S8192))

theorem rowsI_apply (r : Fin 8192) : rowsI (ix2 r (0 : Fin 1)) = BitVec.ofNat 32 r.val := by
  pointwise [rowsI]
  exact wrap_off r.val r.isLt _

theorem wrapI_apply (jf : IVec S8192x1 32) (r : Fin 8192) (e : Fin 32) (he : jf (ix2 r (0 : Fin 1)) = BitVec.ofNat 32 e.val) :
    wrapI jf (ix2 r (0 : Fin 1)) = BitVec.ofNat 32 e.val := by
  pointwise [wrapI]
  rw [he]
  exact wrap_off e.val (by have := e.isLt; omega) _

/-- The pairs of row and expert. -/
def pairsI (jf : IVec S8192x1 32) : IVec S8192x2 32 :=
  concatenate S8192x2 1 [⟨S8192x1, rowsI⟩, ⟨S8192x1, wrapI jf⟩] concatenates_S8192x1_S8192x1_S8192x2_d1

theorem pairsI_row (jf : IVec S8192x1 32) (r : Fin 8192) : pairsI jf (ix2 r (0 : Fin 2)) = rowsI (ix2 r (0 : Fin 1)) := by
  pointwise [pairsI]
theorem pairsI_expert (jf : IVec S8192x1 32) (r : Fin 8192) : pairsI jf (ix2 r (1 : Fin 2)) = wrapI jf (ix2 r (0 : Fin 1)) := by
  pointwise [pairsI]

/-! ## The probabilities -/

/-- Every token's probability of every expert. -/
def probs (xf : FVec Ideal S8192x512 .bf16) (rf : FVec Ideal S512x32 .bf16) : FVec Ideal S8192x32 .f32 :=
  Host.divf (Host.exp (subf (Host.dotGeneral dot_S8192x512_S512x32_S8192x32_1_0_0_1_n_n none (extf .f32 xf bitsLt_bf16_f32) (extf .f32 rf bitsLt_bf16_f32)) (broadcastInDim S8192x32 ![0, 1] bcast_S8192x1_S8192x32_0_1 (broadcastInDim S8192x1 ![0] bcast_S8192_S8192x1_0 (Host.reduce FloatOps.maximumf (Host.dotGeneral dot_S8192x512_S512x32_S8192x32_1_0_0_1_n_n none (extf .f32 xf bitsLt_bf16_f32) (extf .f32 rf bitsLt_bf16_f32)) (constant S_ .f32 0xFF800000#32) reducesTo_S8192x32_S8192_d1 h_S_))))) (broadcastInDim S8192x32 ![0, 1] bcast_S8192x1_S8192x32_0_1 (broadcastInDim S8192x1 ![0] bcast_S8192_S8192x1_0 (Host.reduceAdd (Host.exp (subf (Host.dotGeneral dot_S8192x512_S512x32_S8192x32_1_0_0_1_n_n none (extf .f32 xf bitsLt_bf16_f32) (extf .f32 rf bitsLt_bf16_f32)) (broadcastInDim S8192x32 ![0, 1] bcast_S8192x1_S8192x32_0_1 (broadcastInDim S8192x1 ![0] bcast_S8192_S8192x1_0 (Host.reduce FloatOps.maximumf (Host.dotGeneral dot_S8192x512_S512x32_S8192x32_1_0_0_1_n_n none (extf .f32 xf bitsLt_bf16_f32) (extf .f32 rf bitsLt_bf16_f32)) (constant S_ .f32 0xFF800000#32) reducesTo_S8192x32_S8192_d1 h_S_))))) (constant S_ .f32 0x00000000#32) reducesTo_S8192x32_S8192_d1 h_S_)))

theorem probs_apply (xf : FVec Ideal S8192x512 .bf16) (rf : FVec Ideal S512x32 .bf16) (r : Fin 8192) (e : Fin 32) :
    probs xf rf (ix2 r e) = prob (fun k => xf (ix2 r k)) rf e := by
  pointwise [probs]
  rfl

/-! ## The result -/

/-- The reference's result. -/
def refOut (xf : FVec Ideal S8192x512 .bf16) (rf : FVec Ideal S512x32 .bf16) (jf : IVec S8192x1 32) (ef : FVec Ideal S32x512x1024 .f32) (sf : FVec Ideal S512x1024 .bf16) :
    FVec Ideal S8192x1024 .bf16 :=
  truncf .bf16 (addf (Host.dotGeneral dot_S8192x512_S512x1024_S8192x1024_1_0_0_1_n_n none (extf .f32 xf bitsLt_bf16_f32) (extf .f32 sf bitsLt_bf16_f32))
    (mulf (broadcastInDim S8192x1024 ![0, 1] bcast_S8192x1_S8192x1024_0_1 (broadcastInDim S8192x1 ![0] bcast_S8192_S8192x1_0
        (Host.gather gather_S8192x32_S8192x2_S8192_n_01_n_n_01_1_11 (probs xf rf) (pairsI jf))))
      (Host.dotGeneral dot_S8192x512_S8192x512x1024_S8192x1024_1_1_n_2_0_0 none (extf .f32 xf bitsLt_bf16_f32)
        (Host.gather gather_S32x512x1024_S8192x1_S8192x512x1024_12_0_n_n_0_1_15121024 ef (wrapI jf))))) bitsLt_bf16_f32

theorem refOut_apply (xf : FVec Ideal S8192x512 .bf16) (rf : FVec Ideal S512x32 .bf16) (jf : IVec S8192x1 32) (ef : FVec Ideal S32x512x1024 .f32) (sf : FVec Ideal S512x1024 .bf16)
    (r : Fin 8192) (b : Fin 1024) (e : Fin 32) (he : jf (ix2 r (0 : Fin 1)) = BitVec.ofNat 32 e.val) :
    refOut xf rf jf ef sf (ix2 r b)
      = (∑ l : Fin 512, xf (ix2 r l) * sf (ix2 l b)) + prob (fun l => xf (ix2 r l)) rf e * ∑ l : Fin 512, xf (ix2 r l) * ef (ix3 e l b) := by
  have hw := wrapI_apply jf r e he
  pointwise [refOut]
  rw [gather_entry _ _ r e ((pairsI_row jf r).trans (rowsI_apply r)) ((pairsI_expert jf r).trans hw), probs_apply]
  simp only [gather_expert _ _ r _ b e hw]

end Cert.ExpertRef

end
-- ==== Proof.Meets.lean ====
/-
The kernel's result is the reference's: every device's result array is its block of the reference's.
-/
module

public import proofs.«01_k».proof.Proof.Frames
public import proofs.«01_k».proof.Proof.KernelValue
public import proofs.«01_k».proof.Proof.RefValue
public import Idealize.ShloMosaic.Lib.Pipeline.ValueKit.Geometry

@[expose] public section

set_option maxRecDepth 16384

noncomputable section

namespace Cert.ExpertProof

open Cert.KernelIdeal Cert.KernelIdeal.Gen

open Idealize.ShloMosaic
open Idealize.ShloMosaic.TcCoe
open Idealize.SL.Sem
open Idealize.ShloMosaic.Pipeline (Dat Cfg Window BodyObligation cellOf)
open Cert.ExpertSpec
open scoped BigOperators

/-! ## What the buffers hold -/

section Buffers

variable (m : (ℓ : Loc nD τ sig) → Buf (Elt Ideal) ℓ) (c : Dev nD)

/-- The staged blocks are the whole arguments, -/
theorem xB_eq : xB m c = m ((c.tc : Thread nD τ).loc main_arg0) := by
  funext y
  refine congrArg (m ((c.tc : Thread nD τ).loc main_arg0)) (?_ : (win0_0.blk t0_0).view.emb y = y)
  funext a
  exact Fin.ext (Window.rect_emb_val_of_index_zero win0_0 t0_0 a (by revert a; decide +kernel) y)
theorem rB_eq : rB m c = m ((c.tc : Thread nD τ).loc main_arg1) := by
  funext y
  refine congrArg (m ((c.tc : Thread nD τ).loc main_arg1)) (?_ : (win0_1.blk t0_0).view.emb y = y)
  funext a
  exact Fin.ext (Window.rect_emb_val_of_index_zero win0_1 t0_0 a (by revert a; decide +kernel) y)
theorem jB_eq : jB m c = m ((c.tc : Thread nD τ).loc main_arg2) := by
  funext y
  refine congrArg (m ((c.tc : Thread nD τ).loc main_arg2)) (?_ : (win0_2.blk t0_0).view.emb y = y)
  funext a
  exact Fin.ext (Window.rect_emb_val_of_index_zero win0_2 t0_0 a (by revert a; decide +kernel) y)
theorem sB_eq : sB m c = m ((c.tc : Thread nD τ).loc main_arg4) := by
  funext y
  refine congrArg (m ((c.tc : Thread nD τ).loc main_arg4)) (?_ : (win0_3.blk t0_0).view.emb y = y)
  funext a
  exact Fin.ext (Window.rect_emb_val_of_index_zero win0_3 t0_0 a (by revert a; decide +kernel) y)
/-- and the result array ends as the block left. -/
theorem out_eq : (dats m 0 c).arrAt 4 cfg0.N = outB m c := by
  refine (dats m 0 c).arrAt_eq_of_after_last 4 t0_0 (by decide +kernel) _ fun j => ?_
  rfl

end Buffers

/-! ## What the precondition says -/

/-- A word between 0 and 32 is a small number. -/
theorem expert_of (v : BitVec 32) (h : (IntOp.cmpi .sge v 0#32) &&& (IntOp.cmpi .slt v 32#32) = 1#1) : ∃ e : Fin 32, v = BitVec.ofNat 32 e.val := by
  have h0 : BitVec.ofBool ((0#32).sle v) &&& BitVec.ofBool (v.slt 32#32) = 1#1 := h
  have h1 : ((0#32).sle v && v.slt 32#32) = true := by
    cases ha : (0#32).sle v <;> cases hb : v.slt 32#32 <;> rw [ha, hb] at h0 <;> revert h0 <;> decide
  rw [Bool.and_eq_true, BitVec.sle_eq_decide, BitVec.slt_eq_decide, decide_eq_true_eq, decide_eq_true_eq] at h1
  have hz : (0#32).toInt = 0 := by decide
  have h32 : (32#32).toInt = 32 := by decide
  rw [hz, h32] at h1
  have hn : v.toNat < 32 := by
    have hv := v.isLt
    have := BitVec.toInt_eq_toNat_cond v
    split at this <;> omega
  exact ⟨⟨v.toNat, hn⟩, (BitVec.ofNat_toNat ..).symm ▸ by simp⟩

/-- A value whose absolute value is below infinity is neither infinity. -/
theorem finite_of (x : EReal) (h : FloatOps.cmpf (F := Ideal) (φ := .bf16) .olt (FloatOps.absf (F := Ideal) (φ := .bf16) x) (FloatOps.ofBits (F := Ideal) .bf16 0x7F80#16) = 1#1) : x ≠ ⊥ ∧ x ≠ ⊤ := by
  have ht : (FloatOps.ofBits (F := Ideal) .bf16 0x7F80#16 : EReal) = ⊤ := by
    show Ideal.ofBits .bf16 0x7F80#16 = ⊤
    simp [Ideal.ofBits, Ideal.ieee]
  have hl : max x (-x) < ⊤ := by
    have h' : BitVec.ofBool (decide (max x (-x) < (⊤ : EReal))) = 1#1 := by rw [← ht]; exact h
    by_contra hn
    rw [decide_eq_false hn] at h'
    exact absurd h' (by decide)
  refine ⟨?_, ?_⟩
  · rintro rfl
    exact absurd (lt_of_le_of_lt (le_max_right _ _) hl) (by simp)
  · rintro rfl
    exact absurd (lt_of_le_of_lt (le_max_left _ _) hl) (by simp)

/-! ## Where a block's elements are in the whole arrays -/

/-- Row `r` of device `c`. -/
def gRow (c : Fin 4) (r : Fin 2048) : Fin 8192 := ⟨c.val * 2048 + r.val, by omega⟩

theorem block_rows {α : Type} {n : ℕ} (c : Fin 4) (v : (⟨2, ![8192, n]⟩ : Shape).Idx → α) (h : Layout.Tiles ⟨2, ![2048, n]⟩ ⟨2, ![8192, n]⟩ 0 4) (r : Fin 2048) (l : Fin n) :
    Layout.block ⟨2, ![2048, n]⟩ ⟨2, ![8192, n]⟩ 0 4 c v h (ix2 r l) = v (ix2 (gRow c r) l) :=
  congrArg v (funext fun a => by
    match a with
    | ⟨0, _⟩ => rfl
    | ⟨1, _⟩ => rfl)

theorem block_experts {α : Type} (c : Fin 4) (v : (⟨3, ![32, 512, 1024]⟩ : Shape).Idx → α) (h : Layout.Tiles ⟨3, ![8, 512, 1024]⟩ ⟨3, ![32, 512, 1024]⟩ 0 4)
    (j : Fin 8) (l : Fin 512) (b : Fin 1024) (e : Fin 32) (he : e.val = c.val * 8 + j.val) :
    Layout.block ⟨3, ![8, 512, 1024]⟩ ⟨3, ![32, 512, 1024]⟩ 0 4 c v h (ix3 j l b) = v (ix3 e l b) :=
  congrArg v (funext fun a => by
    match a with
    | ⟨0, _⟩ => exact Fin.ext he.symm
    | ⟨1, _⟩ => rfl
    | ⟨2, _⟩ => rfl)

/-! ## The claim -/

/-- The precondition's side conditions. -/
theorem preFacts : Cert.Pre_tame_KernelIdeal.Facts := ⟨by decide, by decide, by decide⟩
theorem preFactsR : Cert.Pre_tame_ReferenceIdeal.Facts := ⟨by decide, by decide, by decide⟩

section Meets

variable (m : (ℓ : Loc nD τ sig) → Buf (Elt Ideal) ℓ)

/-- The precondition, element by element. -/
theorem pre_expert (h : Cert.Pre_KernelIdeal_tame_KernelIdeal (hPre_tame_KernelIdeal := preFacts) m) (c : Dev nD) (r : Fin 2048) :
    ∃ e : Fin 32, jB m c (ix2 r (0 : Fin 1)) = BitVec.ofNat 32 e.val := by
  rw [jB_eq]
  exact expert_of _ (congrFun (h c).1 (ix2 r (0 : Fin 1)))
theorem pre_x (h : Cert.Pre_KernelIdeal_tame_KernelIdeal (hPre_tame_KernelIdeal := preFacts) m) (c : Dev nD) (i : S2048x512.Idx) :
    xB m c i ≠ ⊥ ∧ xB m c i ≠ ⊤ := by
  rw [xB_eq]
  exact finite_of _ (congrFun (h c).2.1 i)
theorem pre_r (h : Cert.Pre_KernelIdeal_tame_KernelIdeal (hPre_tame_KernelIdeal := preFacts) m) (c : Dev nD) (i : S512x32.Idx) :
    rB m c i ≠ ⊥ ∧ rB m c i ≠ ⊤ := by
  rw [rB_eq]
  exact finite_of _ (congrFun (h c).2.2 i)

/-- A device's result is its block of the reference's. -/
theorem out_block (h : Cert.Pre_KernelIdeal_tame_KernelIdeal (hPre_tame_KernelIdeal := preFacts) m)
    (X : FVec Ideal ⟨2, ![8192, 512]⟩ .bf16) (R : FVec Ideal ⟨2, ![512, 32]⟩ .bf16) (J : IVec ⟨2, ![8192, 1]⟩ 32) (E : FVec Ideal ⟨3, ![32, 512, 1024]⟩ .f32) (S : FVec Ideal ⟨2, ![512, 1024]⟩ .bf16)
    (hx : ∀ c : Dev nD, m ((c.tc : Thread nD τ).loc main_arg0) = Layout.block ⟨2, ![2048, 512]⟩ ⟨2, ![8192, 512]⟩ 0 4 c X)
    (hr : ∀ c : Dev nD, m ((c.tc : Thread nD τ).loc main_arg1) = R)
    (hj : ∀ c : Dev nD, m ((c.tc : Thread nD τ).loc main_arg2) = Layout.block ⟨2, ![2048, 1]⟩ ⟨2, ![8192, 1]⟩ 0 4 c J)
    (he : ∀ c : Dev nD, m ((c.tc : Thread nD τ).loc main_arg3) = Layout.block ⟨3, ![8, 512, 1024]⟩ ⟨3, ![32, 512, 1024]⟩ 0 4 c E)
    (hs : ∀ c : Dev nD, m ((c.tc : Thread nD τ).loc main_arg4) = S) (c : Dev nD) :
    outB m c = Layout.block ⟨2, ![2048, 1024]⟩ ⟨2, ![8192, 1024]⟩ 0 4 c (Cert.ExpertRef.refOut X R J E S) := by
  funext i
  obtain ⟨r, b, rfl⟩ : ∃ (r : Fin 2048) (b : Fin 1024), i = ix2 r b := ⟨i 0, i 1, (ValueIdx.eq_ix2 i).trans (ix2_eq_valueIdx (n0 := 2048) (n1 := 1024) (i 0) (i 1)).symm⟩
  obtain ⟨e, hje⟩ := pre_expert m h c r
  have hX (l : Fin 512) : xB m c (ix2 r l) = X (ix2 (gRow c r) l) := by
    rw [xB_eq, hx c]; exact block_rows c X _ r l
  have hJ : J (ix2 (gRow c r) (0 : Fin 1)) = BitVec.ofNat 32 e.val := by
    rw [← hje, jB_eq, hj c]; exact (block_rows c J _ r 0).symm
  have hE (l : Fin 512) : ewB m (⟨e.val / 8, by have := e.isLt; show _ < 4; omega⟩ : Dev nD) (ix3 (⟨e.val % 8, by omega⟩ : Fin 8) l b) = E (ix3 e l b) := by
    unfold ewB
    rw [he _]
    exact block_experts _ E _ _ l b e (show e.val = e.val / 8 * 8 + e.val % 8 by omega)
  rw [block_rows c (Cert.ExpertRef.refOut X R J E S) _ r b, Cert.ExpertRef.refOut_apply X R J E S (gRow c r) b e hJ]
  unfold outB
  rw [total_value m c _ _ _ _ _ (pre_x m h c) (pre_r m h c) r b e hje, rB_eq, sB_eq, hr c, hs c]
  simp only [hX, hE]

end Meets

/-- The kernel's results are the reference's. -/
theorem meets : Cert.algebraic_KernelIdeal_ReferenceIdeal_pre_tame_KernelIdeal (hKernelIdeal := Cert.KernelIdeal.Gen.facts)
    (hReferenceIdeal := Cert.ReferenceIdeal.Gen.facts) (hPre_tame_KernelIdeal := preFacts) := fun m ρ m' ρ' hp hm => by
  refine ⟨_, ?_, (θ_run Cert.ReferenceIdeal.defs _ _).mono (fun r h => h 0) (Cert.ReferenceIdeal.Value.run (F := Ideal) m' ρ')⟩
  refine (θ_run Cert.KernelIdeal.defs _ _).mono (fun r h c => ⟨?_, args_kept (F := Ideal) m h c⟩) (run_main (F := Ideal) m ρ)
  refine ((h.1 c).1 4).trans ((out_eq m c).trans ?_)
  exact out_block m hp _ _ _ _ _ (fun c => (hm c).1) (fun c => (hm c).2.1) (fun c => (hm c).2.2.1) (fun c => (hm c).2.2.2.1) (fun c => (hm c).2.2.2.2) c

end Cert.ExpertProof

end
-- ==== Proof.lean ====
/-
The claims together: the kernel's frames and its reference's, that the idealized kernel is the kernel, and that its results
are the reference's.
-/
module

public import proofs.«01_k».proof.Defs
public import proofs.«01_k».proof.Proof.Frames
public import proofs.«01_k».proof.Proof.Meets
public import proofs.«01_k».proof.Proof.Gen.Kernel
public import proofs.«01_k».proof.Proof.Gen.KernelIdeal
public import proofs.«01_k».proof.Proof.Gen.ReferenceIdeal
public import proofs.«01_k».proof.Proof.Gen.ReferenceIdeal.Run

@[expose] public section

noncomputable section

namespace Cert.Proof

/-- Everything certified. -/
theorem claim : Cert.Claim :=
  ⟨Cert.Kernel.Gen.facts, Cert.KernelIdeal.Gen.facts, Cert.ReferenceIdeal.Gen.facts, Cert.ExpertProof.preFacts, Cert.ExpertProof.preFactsR,
    Cert.ExpertProof.frame_kernel, Cert.ExpertProof.frame_kernelIdeal, fun m g _ => Cert.ExpertProof.frame_kernelIdeal m g trivial,
    Cert.ExpertProof.frame_reference, fun m g _ => Cert.ExpertProof.frame_reference m g trivial, trivial, Cert.ExpertProof.meets⟩

end Cert.Proof

end
